-- ==== Defs.lean ====
def Pre_Kernel [hPre_subjects_exist : Cert.Pre_subjects_exist.Facts] (m : (ℓ : Loc Cert.Kernel.nD Cert.Kernel.τ Cert.Kernel.sig) → Buf (Elt Bits) ℓ) : Prop :=
  ∀ c : Dev Cert.Kernel.nD,
    (Cert.Pre_subjects_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_subjects_exist : Cert.Pre_subjects_exist.Facts] (m : (ℓ : Loc Cert.KernelIdeal.nD Cert.KernelIdeal.τ Cert.KernelIdeal.sig) → Buf (Elt Ideal) ℓ) : Prop :=
  ∀ c : Dev Cert.KernelIdeal.nD,
    (Cert.Pre_subjects_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_subjects_exist : Cert.Pre_subjects_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_subjects_exist : Cert.Pre_subjects_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_subjects_exist : Cert.Pre_subjects_exist.Facts) (hPre_proper : Cert.Pre_proper.Facts),
    quiescent_Kernel (hKernel := hKernel) (hPre_subjects_exist := hPre_subjects_exist)
    ∧ quiescent_KernelIdeal (hKernelIdeal := hKernelIdeal) (hPre_subjects_exist := hPre_subjects_exist)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_proper.lean ====
abbrev S16x512x32 : Shape := ⟨3, ![16, 512, 32]⟩
abbrev S8x32 : Shape := ⟨2, ![8, 32]⟩
abbrev S8x32x32 : Shape := ⟨3, ![8, 32, 32]⟩
abbrev S16x8x32 : Shape := ⟨3, ![16, 8, 32]⟩
abbrev S16x8x32x32 : Shape := ⟨4, ![16, 8, 32, 32]⟩
abbrev S16x512x8 : Shape := ⟨3, ![16, 512, 8]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x512x32 : S_.BroadcastsInDim S16x512x32 (![] : Fin 0 → Fin S16x512x32.rank)
  reducesTo_S16x512x32_S_d0_1_2 : S16x512x32.ReducesTo [0, 1, 2] S_
  bcast_S_S16x8x32 : S_.BroadcastsInDim S16x8x32 (![] : Fin 0 → Fin S16x8x32.rank)
  reducesTo_S16x8x32_S_d0_1_2 : S16x8x32.ReducesTo [0, 1, 2] S_
  bcast_S_S16x8x32x32 : S_.BroadcastsInDim S16x8x32x32 (![] : Fin 0 → Fin S16x8x32x32.rank)
  reducesTo_S16x8x32x32_S_d0_1_2_3 : S16x8x32x32.ReducesTo [0, 1, 2, 3] S_
  bcast_S_S16x512x8 : S_.BroadcastsInDim S16x512x8 (![] : Fin 0 → Fin S16x512x8.rank)
  reducesTo_S16x512x8_S_d0_1_2 : S16x512x8.ReducesTo [0, 1, 2] S_

variable [Facts]

def fn_part1 {F : FTy → Type} [FloatOps F] (main_arg4 : FVec F S16x8x32x32 .f32) (main_arg5 : FVec F S16x512x8 .f32) (main_v0 : IVec S16x8x32x32 32) (main_v1 : IVec S16x8x32x32 32) (main_v12 : IVec S_ 1) (main_v16 : IVec S_ 1) : IVec S_ 1 :=
  let main_v17 : IVec S_ 1 := andi main_v12 main_v16
  let main_v18 : FVec F S16x8x32x32 .f32 := Host.absf main_arg4
  let main_cst_5 : FVec F S_ .f32 := constant S_ .f32 0x7F800000#32
  let main_v19 : FVec F S16x8x32x32 .f32 := broadcastInDim S16x8x32x32 ![] bcast_S_S16x8x32x32 main_cst_5
  let main_v20 : IVec S16x8x32x32 1 := cmpf .olt main_v18 main_v19
  let main_c_6 : IVec S_ 1 := constantI S_ 1 1#1
  let main_v21 : IVec S_ 1 := (fun x v => Host.reduce IntOp.andi x v reducesTo_S16x8x32x32_S_d0_1_2_3 h_S_) main_v20 main_c_6
  let main_v22 : IVec S_ 1 := andi main_v17 main_v21
  let main_v23 : FVec F S16x512x8 .f32 := Host.absf main_arg5
  let main_cst_7 : FVec F S_ .f32 := constant S_ .f32 0x7F800000#32
  let main_v24 : FVec F S16x512x8 .f32 := broadcastInDim S16x512x8 ![] bcast_S_S16x512x8 main_cst_7
  let main_v25 : IVec S16x512x8 1 := cmpf .olt main_v23 main_v24
  let main_c_8 : IVec S_ 1 := constantI S_ 1 1#1
  let main_v26 : IVec S_ 1 := (fun x v => Host.reduce IntOp.andi x v reducesTo_S16x512x8_S_d0_1_2 h_S_) main_v25 main_c_8
  let main_v27 : IVec S_ 1 := andi main_v22 main_v26
  let main_v28 : IVec S16x8x32x32 1 := cmpi .ne main_v0 main_v1
  let main_cst_9 : FVec F S_ .f32 := constant S_ .f32 0x00000000#32
  let main_v29 : FVec F S16x8x32x32 .f32 := broadcastInDim S16x8x32x32 ![] bcast_S_S16x8x32x32 main_cst_9
  let main_v30 : IVec S16x8x32x32 1 := cmpf .ogt main_arg4 main_v29
  let main_v31 : IVec S16x8x32x32 1 := ori main_v28 main_v30
  let main_c_10 : IVec S_ 1 := constantI S_ 1 1#1
  let main_v32 : IVec S_ 1 := (fun x v => Host.reduce IntOp.andi x v reducesTo_S16x8x32x32_S_d0_1_2_3 h_S_) main_v31 main_c_10
  let main_v33 : IVec S_ 1 := andi main_v27 main_v32
  main_v33

def fn {F : FTy → Type} [FloatOps F] (main_arg0 : FVec F S16x512x32 .f32) (main_arg1 : FVec F S8x32 .f32) (main_arg2 : FVec F S8x32x32 .f32) (main_arg3 : FVec F S16x8x32 .f32) (main_arg4 : FVec F S16x8x32x32 .f32) (main_arg5 : FVec F S16x512x8 .f32) (main_arg6 : IVec S16 32) : IVec S_ 1 :=
  let main_v0 : IVec S16x8x32x32 32 := iotaInDim S16x8x32x32 32 2
  let main_v1 : IVec S16x8x32x32 32 := iotaInDim S16x8x32x32 32 3
  let main_c : IVec S_ 32 := constantI S_ 32 0#32
  let main_v2 : IVec S16 32 := broadcastInDim S16 ![] bcast_S_S16 main_c
  let main_v3 : IVec S16 1 := cmpi .sge main_arg6 main_v2
  let main_c_0 : IVec S_ 32 := constantI S_ 32 16#32
  let main_v4 : IVec S16 32 := broadcastInDim S16 ![] bcast_S_S16 main_c_0
  let main_v5 : IVec S16 1 := cmpi .slt main_arg6 main_v4
  let main_v6 : IVec S16 1 := andi main_v3 main_v5
  let main_c_1 : IVec S_ 1 := constantI S_ 1 1#1
  let main_v7 : IVec S_ 1 := (fun x v => Host.reduce IntOp.andi x v reducesTo_S16_S_d0 h_S_) main_v6 main_c_1
  let main_v8 : FVec F S16x512x32 .f32 := Host.absf main_arg0
  let main_cst : FVec F S_ .f32 := constant S_ .f32 0x7F800000#32
  let main_v9 : FVec F S16x512x32 .f32 := broadcastInDim S16x512x32 ![] bcast_S_S16x512x32 main_cst
  let main_v10 : IVec S16x512x32 1 := cmpf .olt main_v8 main_v9
  let main_c_2 : IVec S_ 1 := constantI S_ 1 1#1
  let main_v11 : IVec S_ 1 := (fun x v => Host.reduce IntOp.andi x v reducesTo_S16x512x32_S_d0_1_2 h_S_) main_v10 main_c_2
  let main_v12 : IVec S_ 1 := andi main_v7 main_v11
  let main_v13 : FVec F S16x8x32 .f32 := Host.absf main_arg3
  let main_cst_3 : FVec F S_ .f32 := constant S_ .f32 0x7F800000#32
  let main_v14 : FVec F S16x8x32 .f32 := broadcastInDim S16x8x32 ![] bcast_S_S16x8x32 main_cst_3
  let main_v15 : IVec S16x8x32 1 := cmpf .olt main_v13 main_v14
  let main_c_4 : IVec S_ 1 := constantI S_ 1 1#1
  let main_v16 : IVec S_ 1 := (fun x v => Host.reduce IntOp.andi x v reducesTo_S16x8x32_S_d0_1_2 h_S_) main_v15 main_c_4
  fn_part1 (F := F) main_arg4 main_arg5 main_v0 main_v1 main_v12 main_v16
-- ==== Pre_subjects_exist.lean ====
abbrev S16x512x32 : Shape := ⟨3, ![16, 512, 32]⟩
abbrev S8x32 : Shape := ⟨2, ![8, 32]⟩
abbrev S8x32x32 : Shape := ⟨3, ![8, 32, 32]⟩
abbrev S16x8x32 : Shape := ⟨3, ![16, 8, 32]⟩
abbrev S16x8x32x32 : Shape := ⟨4, ![16, 8, 32, 32]⟩
abbrev S16x512x8 : Shape := ⟨3, ![16, 512, 8]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x32 .f32) (main_arg1 : FVec F S8x32 .f32) (main_arg2 : FVec F S8x32x32 .f32) (main_arg3 : FVec F S16x8x32 .f32) (main_arg4 : FVec F S16x8x32x32 .f32) (main_arg5 : FVec F S16x512x8 .f32) (main_arg6 : IVec S16 32) : IVec S16 1 :=
  let main_c : IVec S_ 32 := constantI S_ 32 0#32
  let main_v0 : IVec S16 32 := broadcastInDim S16 ![] bcast_S_S16 main_c
  let main_v1 : IVec S16 1 := cmpi .sge main_arg6 main_v0
  let main_c_0 : IVec S_ 32 := constantI S_ 32 16#32
  let main_v2 : IVec S16 32 := broadcastInDim S16 ![] bcast_S_S16 main_c_0
  let main_v3 : IVec S16 1 := cmpi .slt main_arg6 main_v2
  let main_v4 : IVec S16 1 := andi main_v1 main_v3
  main_v4
-- ==== Kernel.lean ====
abbrev S16x512x32 : Shape := ⟨3, ![16, 512, 32]⟩
abbrev S8x32 : Shape := ⟨2, ![8, 32]⟩
abbrev S8x32x32 : Shape := ⟨3, ![8, 32, 32]⟩
abbrev S16x8x32 : Shape := ⟨3, ![16, 8, 32]⟩
abbrev S16x8x32x32 : Shape := ⟨4, ![16, 8, 32, 32]⟩
abbrev S16x512x8 : Shape := ⟨3, ![16, 512, 8]⟩
abbrev S16 : Shape := ⟨1, ![16]⟩
abbrev S_ : Shape := ⟨0, ![]⟩
abbrev S16x512x1 : Shape := ⟨3, ![16, 512, 1]⟩
abbrev S16x512x41 : Shape := ⟨3, ![16, 512, 41]⟩
abbrev S16x41x512 : Shape := ⟨3, ![16, 41, 512]⟩
abbrev S128x32x32 : Shape := ⟨3, ![128, 32, 32]⟩
abbrev S128x32 : Shape := ⟨2, ![128, 32]⟩
abbrev S1x16 : Shape := ⟨2, ![1, 16]⟩
abbrev S1x1 : Shape := ⟨2, ![1, 1]⟩
abbrev S128x33x33 : Shape := ⟨3, ![128, 33, 33]⟩
abbrev S32x32 : Shape := ⟨2, ![32, 32]⟩
abbrev S1x32x32 : Shape := ⟨3, ![1, 32, 32]⟩
abbrev S128x32x1 : Shape := ⟨3, ![128, 32, 1]⟩
abbrev S128x1x32 : Shape := ⟨3, ![128, 1, 32]⟩
abbrev S128 : Shape := ⟨1, ![128]⟩
abbrev S128x1 : Shape := ⟨2, ![128, 1]⟩
abbrev S128x1x1 : Shape := ⟨3, ![128, 1, 1]⟩
abbrev S1x41x512 : Shape := ⟨3, ![1, 41, 512]⟩
abbrev S41x512 : Shape := ⟨2, ![41, 512]⟩
abbrev S33x512 : Shape := ⟨2, ![33, 512]⟩
abbrev S8x512 : Shape := ⟨2, ![8, 512]⟩
abbrev S8x1x512 : Shape := ⟨3, ![8, 1, 512]⟩
abbrev S1x33x512 : Shape := ⟨3, ![1, 33, 512]⟩
abbrev S8x33x512 : Shape := ⟨3, ![8, 33, 512]⟩
abbrev S8x33x33 : Shape := ⟨3, ![8, 33, 33]⟩
abbrev S1 : Shape := ⟨1, ![1]⟩
abbrev S1x128x33x33 : Shape := ⟨4, ![1, 128, 33, 33]⟩
abbrev S1x1x1x1 : Shape := ⟨4, ![1, 1, 1, 1]⟩
abbrev S16x16 : Shape := ⟨2, ![16, 16]⟩
abbrev S16x1 : Shape := ⟨2, ![16, 1]⟩
abbrev S1x16x1 : Shape := ⟨3, ![1, 16, 1]⟩
abbrev S1x1x1 : Shape := ⟨3, ![1, 1, 1]⟩
abbrev S1x8x32 : Shape := ⟨3, ![1, 8, 32]⟩
abbrev S16x8 : Shape := ⟨2, ![16, 8]⟩
abbrev S1x8x32x32 : Shape := ⟨4, ![1, 8, 32, 32]⟩

abbrev nBuf : Space → Nat
  | .hbm => 16
  | .vmem => 8
  | .smem => 2
  | _ => 0

abbrev bufTy : (tb : Table) → Fin (tcTables nBuf tb) → BufTy
  | .hbm, ⟨0, _⟩ => ⟨S16x512x32, .f32⟩
  | .hbm, ⟨1, _⟩ => ⟨S8x32, .f32⟩
  | .hbm, ⟨2, _⟩ => ⟨S8x32x32, .f32⟩
  | .hbm, ⟨3, _⟩ => ⟨S16x8x32, .f32⟩
  | .hbm, ⟨4, _⟩ => ⟨S16x8x32x32, .f32⟩
  | .hbm, ⟨5, _⟩ => ⟨S16x512x8, .f32⟩
  | .hbm, ⟨6, _⟩ => ⟨S16, .i32⟩
  | .hbm, ⟨7, _⟩ => ⟨S_, .f32⟩
  | .hbm, ⟨8, _⟩ => ⟨S16x512x1, .f32⟩
  | .hbm, ⟨9, _⟩ => ⟨S16x512x41, .f32⟩
  | .hbm, ⟨10, _⟩ => ⟨S16x41x512, .f32⟩
  | .hbm, ⟨11, _⟩ => ⟨S128x32x32, .f32⟩
  | .hbm, ⟨12, _⟩ => ⟨S128x32, .f32⟩
  | .hbm, ⟨13, _⟩ => ⟨S1x16, .i32⟩
  | .hbm, ⟨14, _⟩ => ⟨S1x1, .f32⟩
  | .hbm, ⟨15, _⟩ => ⟨S_, .f32⟩
  | .local _ .vmem, ⟨0, _⟩ => ⟨S1x16, .i32⟩
  | .local _ .vmem, ⟨1, _⟩ => ⟨S128x32, .f32⟩
  | .local _ .vmem, ⟨2, _⟩ => ⟨S8x32, .f32⟩
  | .local _ .vmem, ⟨3, _⟩ => ⟨S128x32x32, .f32⟩
  | .local _ .vmem, ⟨4, _⟩ => ⟨S8x32x32, .f32⟩
  | .local _ .vmem, ⟨5, _⟩ => ⟨S128x33x33, .f32⟩
  | .local _ .vmem, ⟨6, _⟩ => ⟨S128x33x33, .f32⟩
  | .local _ .vmem, ⟨7, _⟩ => ⟨S16x41x512, .f32⟩
  | .local _ .smem, ⟨0, _⟩ => ⟨S16, .i32⟩
  | .local _ .smem, ⟨1, _⟩ => ⟨S1x1, .f32⟩
  | _, _ => ⟨S16x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v335 : BitVec 32) : Fin 3 → Nat :=
  let c8_i32 : BitVec 32 := 8#32
  let v336 : BitVec 32 := Scalar.muli v335 c8_i32
  let v337 : Index := Scalar.indexCast v336
  let c0_118 : Index := 0#32
  let c0_119 : Index := 0#32
  ![v337.toNat, 0, 0]

def k0_chk1 (v335 : BitVec 32) : Prop :=
  (∀ a, (k0_off1 v335) a + S8x33x33.size a ≤ S128x33x33.size a)
theorem k0_off1_inb : ∀ (v335 : BitVec 32) (k0_hw1 : k0_chk1 v335), ∀ a, (k0_off1 v335) a + S8x33x33.size a ≤ S128x33x33.size a := fun v335 k0_hw1 => k0_hw1

def k0_off2 (v339 : BitVec 32) : Fin 3 → Nat :=
  let c8_i32_121 : BitVec 32 := 8#32
  let v340 : BitVec 32 := Scalar.muli v339 c8_i32_121
  let v341 : Index := Scalar.indexCast v340
  let c0_122 : Index := 0#32
  let c0_123 : Index := 0#32
  ![v341.toNat, 0, 0]

def k0_chk2 (v339 : BitVec 32) : Prop :=
  (∀ a, (k0_off2 v339) a + S8x33x33.size a ≤ S128x33x33.size a)
theorem k0_off2_inb : ∀ (v339 : BitVec 32) (k0_hw2 : k0_chk2 v339), ∀ a, (k0_off2 v339) a + S8x33x33.size a ≤ S128x33x33.size a := fun v339 k0_hw2 => k0_hw2

def k0_off3 (v343 : BitVec 32) : Fin 3 → Nat :=
  let c8_i32_125 : BitVec 32 := 8#32
  let v344 : BitVec 32 := Scalar.muli v343 c8_i32_125
  let v345 : Index := Scalar.indexCast v344
  let c0_126 : Index := 0#32
  let c0_127 : Index := 0#32
  ![v345.toNat, 0, 0]

def k0_chk3 (v343 : BitVec 32) : Prop :=
  (∀ a, (k0_off3 v343) a + S8x33x33.size a ≤ S128x33x33.size a)
theorem k0_off3_inb : ∀ (v343 : BitVec 32) (k0_hw3 : k0_chk3 v343), ∀ a, (k0_off3 v343) a + S8x33x33.size a ≤ S128x33x33.size a := fun v343 k0_hw3 => k0_hw3

def k0_off4 (v347 : BitVec 32) : Fin 3 → Nat :=
  let c8_i32_129 : BitVec 32 := 8#32
  let v348 : BitVec 32 := Scalar.muli v347 c8_i32_129
  let v349 : Index := Scalar.indexCast v348
  let c0_130 : Index := 0#32
  let c0_131 : Index := 0#32
  ![v349.toNat, 0, 0]

def k0_chk4 (v347 : BitVec 32) : Prop :=
  (∀ a, (k0_off4 v347) a + S8x33x33.size a ≤ S128x33x33.size a)
theorem k0_off4_inb : ∀ (v347 : BitVec 32) (k0_hw4 : k0_chk4 v347), ∀ a, (k0_off4 v347) a + S8x33x33.size a ≤ S128x33x33.size a := fun v347 k0_hw4 => k0_hw4

def k0_off5 (v351 : BitVec 32) : Fin 3 → Nat :=
  let c8_i32_133 : BitVec 32 := 8#32
  let v352 : BitVec 32 := Scalar.muli v351 c8_i32_133
  let v353 : Index := Scalar.indexCast v352
  let c0_134 : Index := 0#32
  let c0_135 : Index := 0#32
  ![v353.toNat, 0, 0]

def k0_chk5 (v351 : BitVec 32) : Prop :=
  (∀ a, (k0_off5 v351) a + S8x33x33.size a ≤ S128x33x33.size a)
theorem k0_off5_inb : ∀ (v351 : BitVec 32) (k0_hw5 : k0_chk5 v351), ∀ a, (k0_off5 v351) a + S8x33x33.size a ≤ S128x33x33.size a := fun v351 k0_hw5 => k0_hw5

def k0_off6 (v355 : BitVec 32) : Fin 3 → Nat :=
  let c8_i32_137 : BitVec 32 := 8#32
  let v356 : BitVec 32 := Scalar.muli v355 c8_i32_137
  let v357 : Index := Scalar.indexCast v356
  let c0_138 : Index := 0#32
  let c0_139 : Index := 0#32
  ![v357.toNat, 0, 0]

def k0_chk6 (v355 : BitVec 32) : Prop :=
  (∀ a, (k0_off6 v355) a + S8x33x33.size a ≤ S128x33x33.size a)
theorem k0_off6_inb : ∀ (v355 : BitVec 32) (k0_hw6 : k0_chk6 v355), ∀ a, (k0_off6 v355) a + S8x33x33.size a ≤ S128x33x33.size a := fun v355 k0_hw6 => k0_hw6

def k0_off7 (v359 : BitVec 32) : Fin 3 → Nat :=
  let c8_i32_141 : BitVec 32 := 8#32
  let v360 : BitVec 32 := Scalar.muli v359 c8_i32_141
  let v361 : Index := Scalar.indexCast v360
  let c0_142 : Index := 0#32
  let c0_143 : Index := 0#32
  ![v361.toNat, 0, 0]

def k0_chk7 (v359 : BitVec 32) : Prop :=
  (∀ a, (k0_off7 v359) a + S8x33x33.size a ≤ S128x33x33.size a)
theorem k0_off7_inb : ∀ (v359 : BitVec 32) (k0_hw7 : k0_chk7 v359), ∀ a, (k0_off7 v359) a + S8x33x33.size a ≤ S128x33x33.size a := fun v359 k0_hw7 => k0_hw7

def k0_off8 (v363 : BitVec 32) : Fin 3 → Nat :=
  let c8_i32_145 : BitVec 32 := 8#32
  let v364 : BitVec 32 := Scalar.muli v363 c8_i32_145
  let v365 : Index := Scalar.indexCast v364
  let c0_146 : Index := 0#32
  let c0_147 : Index := 0#32
  ![v365.toNat, 0, 0]

def k0_chk8 (v363 : BitVec 32) : Prop :=
  (∀ a, (k0_off8 v363) a + S8x33x33.size a ≤ S128x33x33.size a)
theorem k0_off8_inb : ∀ (v363 : BitVec 32) (k0_hw8 : k0_chk8 v363), ∀ a, (k0_off8 v363) a + S8x33x33.size a ≤ S128x33x33.size a := fun v363 k0_hw8 => k0_hw8

def k0_off9 (v367 : BitVec 32) : Fin 3 → Nat :=
  let c8_i32_149 : BitVec 32 := 8#32
  let v368 : BitVec 32 := Scalar.muli v367 c8_i32_149
  let v369 : Index := Scalar.indexCast v368
  let c0_150 : Index := 0#32
  let c0_151 : Index := 0#32
  ![v369.toNat, 0, 0]

def k0_chk9 (v367 : BitVec 32) : Prop :=
  (∀ a, (k0_off9 v367) a + S8x33x33.size a ≤ S128x33x33.size a)
theorem k0_off9_inb : ∀ (v367 : BitVec 32) (k0_hw9 : k0_chk9 v367), ∀ a, (k0_off9 v367) a + S8x33x33.size a ≤ S128x33x33.size a := fun v367 k0_hw9 => k0_hw9

def k0_off10 (v371 : BitVec 32) : Fin 3 → Nat :=
  let c8_i32_153 : BitVec 32 := 8#32
  let v372 : BitVec 32 := Scalar.muli v371 c8_i32_153
  let v373 : Index := Scalar.indexCast v372
  let c0_154 : Index := 0#32
  let c0_155 : Index := 0#32
  ![v373.toNat, 0, 0]

def k0_chk10 (v371 : BitVec 32) : Prop :=
  (∀ a, (k0_off10 v371) a + S8x33x33.size a ≤ S128x33x33.size a)
theorem k0_off10_inb : ∀ (v371 : BitVec 32) (k0_hw10 : k0_chk10 v371), ∀ a, (k0_off10 v371) a + S8x33x33.size a ≤ S128x33x33.size a := fun v371 k0_hw10 => k0_hw10

def k0_off11 (v375 : BitVec 32) : Fin 3 → Nat :=
  let c8_i32_157 : BitVec 32 := 8#32
  let v376 : BitVec 32 := Scalar.muli v375 c8_i32_157
  let v377 : Index := Scalar.indexCast v376
  let c0_158 : Index := 0#32
  let c0_159 : Index := 0#32
  ![v377.toNat, 0, 0]

def k0_chk11 (v375 : BitVec 32) : Prop :=
  (∀ a, (k0_off11 v375) a + S8x33x33.size a ≤ S128x33x33.size a)
theorem k0_off11_inb : ∀ (v375 : BitVec 32) (k0_hw11 : k0_chk11 v375), ∀ a, (k0_off11 v375) a + S8x33x33.size a ≤ S128x33x33.size a := fun v375 k0_hw11 => k0_hw11

def k0_off12 (v379 : BitVec 32) : Fin 3 → Nat :=
  let c8_i32_161 : BitVec 32 := 8#32
  let v380 : BitVec 32 := Scalar.muli v379 c8_i32_161
  let v381 : Index := Scalar.indexCast v380
  let c0_162 : Index := 0#32
  let c0_163 : Index := 0#32
  ![v381.toNat, 0, 0]

def k0_chk12 (v379 : BitVec 32) : Prop :=
  (∀ a, (k0_off12 v379) a + S8x33x33.size a ≤ S128x33x33.size a)
theorem k0_off12_inb : ∀ (v379 : BitVec 32) (k0_hw12 : k0_chk12 v379), ∀ a, (k0_off12 v379) a + S8x33x33.size a ≤ S128x33x33.size a := fun v379 k0_hw12 => k0_hw12

def k0_off13 (v383 : BitVec 32) : Fin 3 → Nat :=
  let c8_i32_165 : BitVec 32 := 8#32
  let v384 : BitVec 32 := Scalar.muli v383 c8_i32_165
  let v385 : Index := Scalar.indexCast v384
  let c0_166 : Index := 0#32
  let c0_167 : Index := 0#32
  ![v385.toNat, 0, 0]

def k0_chk13 (v383 : BitVec 32) : Prop :=
  (∀ a, (k0_off13 v383) a + S8x33x33.size a ≤ S128x33x33.size a)
theorem k0_off13_inb : ∀ (v383 : BitVec 32) (k0_hw13 : k0_chk13 v383), ∀ a, (k0_off13 v383) a + S8x33x33.size a ≤ S128x33x33.size a := fun v383 k0_hw13 => k0_hw13

def k0_off14 (v387 : BitVec 32) : Fin 3 → Nat :=
  let c8_i32_169 : BitVec 32 := 8#32
  let v388 : BitVec 32 := Scalar.muli v387 c8_i32_169
  let v389 : Index := Scalar.indexCast v388
  let c0_170 : Index := 0#32
  let c0_171 : Index := 0#32
  ![v389.toNat, 0, 0]

def k0_chk14 (v387 : BitVec 32) : Prop :=
  (∀ a, (k0_off14 v387) a + S8x33x33.size a ≤ S128x33x33.size a)
theorem k0_off14_inb : ∀ (v387 : BitVec 32) (k0_hw14 : k0_chk14 v387), ∀ a, (k0_off14 v387) a + S8x33x33.size a ≤ S128x33x33.size a := fun v387 k0_hw14 => k0_hw14

def k0_off15 (v391 : BitVec 32) : Fin 3 → Nat :=
  let c8_i32_173 : BitVec 32 := 8#32
  let v392 : BitVec 32 := Scalar.muli v391 c8_i32_173
  let v393 : Index := Scalar.indexCast v392
  let c0_174 : Index := 0#32
  let c0_175 : Index := 0#32
  ![v393.toNat, 0, 0]

def k0_chk15 (v391 : BitVec 32) : Prop :=
  (∀ a, (k0_off15 v391) a + S8x33x33.size a ≤ S128x33x33.size a)
theorem k0_off15_inb : ∀ (v391 : BitVec 32) (k0_hw15 : k0_chk15 v391), ∀ a, (k0_off15 v391) a + S8x33x33.size a ≤ S128x33x33.size a := fun v391 k0_hw15 => k0_hw15

def k0_off16 (v395 : BitVec 32) : Fin 3 → Nat :=
  let c8_i32_177 : BitVec 32 := 8#32
  let v396 : BitVec 32 := Scalar.muli v395 c8_i32_177
  let v397 : Index := Scalar.indexCast v396
  let c0_178 : Index := 0#32
  let c0_179 : Index := 0#32
  ![v397.toNat, 0, 0]

def k0_chk16 (v395 : BitVec 32) : Prop :=
  (∀ a, (k0_off16 v395) a + S8x33x33.size a ≤ S128x33x33.size a)
theorem k0_off16_inb : ∀ (v395 : BitVec 32) (k0_hw16 : k0_chk16 v395), ∀ a, (k0_off16 v395) a + S8x33x33.size a ≤ S128x33x33.size a := fun v395 k0_hw16 => k0_hw16

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16x512x32 : Shape := ⟨3, ![16, 512, 32]⟩
abbrev S8x32 : Shape := ⟨2, ![8, 32]⟩
abbrev S8x32x32 : Shape := ⟨3, ![8, 32, 32]⟩
abbrev S16x8x32 : Shape := ⟨3, ![16, 8, 32]⟩
abbrev S16x8x32x32 : Shape := ⟨4, ![16, 8, 32, 32]⟩
abbrev S16x512x8 : Shape := ⟨3, ![16, 512, 8]⟩
abbrev S16 : Shape := ⟨1, ![16]⟩
abbrev S32x32 : Shape := ⟨2, ![32, 32]⟩
abbrev S1x1x32x32 : Shape := ⟨4, ![1, 1, 32, 32]⟩
abbrev S_ : Shape := ⟨0, ![]⟩
abbrev S16x8x32x1 : Shape := ⟨4, ![16, 8, 32, 1]⟩
abbrev S8192x32 : Shape := ⟨2, ![8192, 32]⟩
abbrev S8192x8 : Shape := ⟨2, ![8192, 8]⟩
abbrev S16x512 : Shape := ⟨2, ![16, 512]⟩
abbrev S8192 : Shape := ⟨1, ![8192]⟩
abbrev S1x8192x1x32 : Shape := ⟨4, ![1, 8192, 1, 32]⟩
abbrev S16x1x8x32 : Shape := ⟨4, ![16, 1, 8, 32]⟩
abbrev S16x8192x8x32 : Shape := ⟨4, ![16, 8192, 8, 32]⟩
abbrev S16x8x8192x32 : Shape := ⟨4, ![16, 8, 8192, 32]⟩
abbrev S16x8192x8 : Shape := ⟨3, ![16, 8192, 8]⟩
abbrev S32 : Shape := ⟨1, ![32]⟩
abbrev S32x1 : Shape := ⟨2, ![32, 1]⟩
abbrev S32x2 : Shape := ⟨2, ![32, 2]⟩
abbrev S16x8 : Shape := ⟨2, ![16, 8]⟩
abbrev S16x1x8 : Shape := ⟨3, ![16, 1, 8]⟩
abbrev S1x8192 : Shape := ⟨2, ![1, 8192]⟩
abbrev S16x1 : Shape := ⟨2, ![16, 1]⟩
abbrev S16x8192 : Shape := ⟨2, ![16, 8192]⟩
abbrev S16x8192x1 : Shape := ⟨3, ![16, 8192, 1]⟩
abbrev S1x8192x8 : Shape := ⟨3, ![1, 8192, 8]⟩
abbrev S16x1x1 : Shape := ⟨3, ![16, 1, 1]⟩
abbrev S1x8x32 : Shape := ⟨3, ![1, 8, 32]⟩
abbrev S16x1x1x1 : Shape := ⟨4, ![16, 1, 1, 1]⟩
abbrev S1x8x32x32 : Shape := ⟨4, ![1, 8, 32, 32]⟩

abbrev nBuf : Space → Nat
  | .hbm => 157
  | .vmem => 0
  | .smem => 0
  | _ => 0

abbrev hbmTy0_0 (i : Nat) : BufTy := match i % 128 with
  | 0 => ⟨S16x512x32, .f32⟩
  | 1 => ⟨S8x32, .f32⟩
  | 2 => ⟨S8x32x32, .f32⟩
  | 3 => ⟨S16x8x32, .f32⟩
  | 4 => ⟨S16x8x32x32, .f32⟩
  | 5 => ⟨S16x512x8, .f32⟩
  | 6 => ⟨S16, .i32⟩
  | 7 => ⟨S32x32, .i32⟩
  | 8 => ⟨S32x32, .i32⟩
  | 9 => ⟨S32x32, .i1⟩
  | 10 => ⟨S32x32, .f32⟩
  | 11 => ⟨S1x1x32x32, .f32⟩
  | 12 => ⟨S16x8x32x32, .f32⟩
  | 13 => ⟨S16x8x32x32, .f32⟩
  | 14 => ⟨S_, .f32⟩
  | 15 => ⟨S16x8x32, .f32⟩
  | 16 => ⟨S32x32, .i1⟩
  | 17 => ⟨S_, .f32⟩
  | 18 => ⟨S_, .f32⟩
  | 19 => ⟨S16x8x32x32, .i1⟩
  | 20 => ⟨S16x8x32x32, .f32⟩
  | 21 => ⟨S16x8x32x32, .f32⟩
  | 22 => ⟨S_, .f32⟩
  | 23 => ⟨S16x8x32x32, .f32⟩
  | 24 => ⟨S_, .i32⟩
  | 25 => ⟨S_, .i32⟩
  | 26 => ⟨S16x8x32x32, .f32⟩
  | 27 => ⟨S32x32, .f32⟩
  | 28 => ⟨S16x8x32, .f32⟩
  | 29 => ⟨S32x32, .i32⟩
  | 30 => ⟨S_, .i32⟩
  | 31 => ⟨S_, .i32⟩
  | 32 => ⟨S16x8x32x32, .f32⟩
  | 33 => ⟨S_, .i32⟩
  | 34 => ⟨S_, .i1⟩
  | 35 => ⟨S_, .i32⟩
  | 36 => ⟨S_, .i32⟩
  | 37 => ⟨S16x8x32x32, .f32⟩
  | 38 => ⟨S1x1x32x32, .f32⟩
  | 39 => ⟨S16x8x32x32, .f32⟩
  | 40 => ⟨S16x8x32x32, .f32⟩
  | 41 => ⟨S16x8x32x1, .f32⟩
  | 42 => ⟨S16x8x32x32, .f32⟩
  | 43 => ⟨S16x8x32x32, .f32⟩
  | 44 => ⟨S_, .i32⟩
  | 45 => ⟨S32x32, .i32⟩
  | 46 => ⟨S32x32, .i1⟩
  | 47 => ⟨S16x8x32x32, .i1⟩
  | 48 => ⟨S16x8x32x32, .f32⟩
  | 49 => ⟨S_, .i32⟩
  | 50 => ⟨S_, .i32⟩
  | 51 => ⟨S8192x32, .f32⟩
  | 52 => ⟨S8192x8, .f32⟩
  | 53 => ⟨S16x512, .i32⟩
  | 54 => ⟨S8192, .i32⟩
  | 55 => ⟨S1x8192x1x32, .f32⟩
  | 56 => ⟨S16x1x8x32, .f32⟩
  | 57 => ⟨S16x8192x8x32, .f32⟩
  | 58 => ⟨S16x8192x8x32, .f32⟩
  | 59 => ⟨S16x8192x8x32, .f32⟩
  | 60 => ⟨S16x8x8192x32, .f32⟩
  | 61 => ⟨S16x8192x8x32, .f32⟩
  | 62 => ⟨S16x8192x8x32, .f32⟩
  | 63 => ⟨S_, .f32⟩
  | 64 => ⟨S16x8192x8, .f32⟩
  | 65 => ⟨S32, .i32⟩
  | 66 => ⟨S32, .i32⟩
  | 67 => ⟨S_, .i32⟩
  | 68 => ⟨S32, .i32⟩
  | 69 => ⟨S32, .i1⟩
  | 70 => ⟨S_, .i32⟩
  | 71 => ⟨S32, .i32⟩
  | 72 => ⟨S32, .i32⟩
  | 73 => ⟨S32, .i32⟩
  | 74 => ⟨S_, .i32⟩
  | 75 => ⟨S32, .i32⟩
  | 76 => ⟨S32, .i1⟩
  | 77 => ⟨S_, .i32⟩
  | 78 => ⟨S32, .i32⟩
  | 79 => ⟨S32, .i32⟩
  | 80 => ⟨S32, .i32⟩
  | 81 => ⟨S32x1, .i32⟩
  | 82 => ⟨S32x1, .i32⟩
  | 83 => ⟨S32x2, .i32⟩
  | 84 => ⟨S16x8x32, .f32⟩
  | 85 => ⟨S16x8x32, .f32⟩
  | 86 => ⟨S_, .f32⟩
  | 87 => ⟨S16x8, .f32⟩
  | 88 => ⟨S16x1x8, .f32⟩
  | 89 => ⟨S_, .f32⟩
  | 90 => ⟨S16x1x8, .f32⟩
  | 91 => ⟨S16x1x8, .f32⟩
  | 92 => ⟨S_, .f32⟩
  | 93 => ⟨S16x8192x8, .f32⟩
  | 94 => ⟨S16x8192x8, .f32⟩
  | 95 => ⟨S16x8192x8, .f32⟩
  | 96 => ⟨S16x8192x8, .f32⟩
  | 97 => ⟨S1x8192, .i32⟩
  | 98 => ⟨S16, .i32⟩
  | 99 => ⟨S16x1, .i32⟩
  | 100 => ⟨S16x8192, .i32⟩
  | 101 => ⟨S16x8192, .i32⟩
  | 102 => ⟨S16x8192, .i1⟩
  | 103 => ⟨S16x8192, .f32⟩
  | 104 => ⟨S16x8192x1, .f32⟩
  | 105 => ⟨S1x8192x8, .f32⟩
  | 106 => ⟨S16x8192x8, .f32⟩
  | 107 => ⟨S16x8192x8, .f32⟩
  | 108 => ⟨S16x8192x8, .f32⟩
  | 109 => ⟨S16x8192x8, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S16, .f32⟩
  | 117 => ⟨S_, .i32⟩
  | 118 => ⟨S16, .i32⟩
  | 119 => ⟨S16, .i1⟩
  | 120 => ⟨S_, .i32⟩
  | 121 => ⟨S16, .i32⟩
  | 122 => ⟨S16, .i32⟩
  | 123 => ⟨S16, .i32⟩
  | 124 => ⟨S16x1, .i32⟩
  | 125 => ⟨S_, .f32⟩
  | 126 => ⟨S16, .f32⟩
  | 127 => ⟨S16, .f32⟩
  | _ => ⟨S16x512x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16x1x1, .f32⟩
  | 5 => ⟨S1x8x32, .f32⟩
  | 6 => ⟨S16x8x32, .f32⟩
  | 7 => ⟨S16x8x32, .f32⟩
  | 8 => ⟨S16x8x32, .f32⟩
  | 9 => ⟨S16x8x32, .f32⟩
  | 10 => ⟨S16x8x32, .f32⟩
  | 11 => ⟨S_, .f32⟩
  | 12 => ⟨S_, .f32⟩
  | 13 => ⟨S16x1x1x1, .f32⟩
  | 14 => ⟨S1x8x32x32, .f32⟩
  | 15 => ⟨S16x8x32x32, .f32⟩
  | 16 => ⟨S16x8x32x32, .f32⟩
  | 17 => ⟨S16x8x32x32, .f32⟩
  | 18 => ⟨S16x8x32x32, .f32⟩
  | 19 => ⟨S16x8x32x32, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | _ => ⟨S16x512x32, .f32⟩

abbrev hbmTy (i : Nat) : BufTy := match i / 128 with
  | 0 => hbmTy0_0 i
  | 1 => hbmTy0_1 i
  | _ => ⟨S16x512x32, .f32⟩

abbrev bufTy : (tb : Table) → Fin (tcTables nBuf tb) → BufTy
  | .hbm, ⟨i, _⟩ => hbmTy i
  | _, _ => ⟨S16x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_c : Ref sig .tc := ⟨.hbm, 24, rfl⟩
abbrev main_c_2 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_while0c_c_25 : Ref sig .tc := ⟨.hbm, 33, rfl⟩
abbrev main_while0c_v83 : Ref sig .tc := ⟨.hbm, 34, rfl⟩
abbrev main_while0b_c_25 : Ref sig .tc := ⟨.hbm, 35, rfl⟩
abbrev main_while0b_v83 : Ref sig .tc := ⟨.hbm, 36, rfl⟩
abbrev main_while0b_v84 : Ref sig .tc := ⟨.hbm, 37, rfl⟩
abbrev main_while0b_v85 : Ref sig .tc := ⟨.hbm, 38, rfl⟩
abbrev main_while0b_v86 : Ref sig .tc := ⟨.hbm, 39, rfl⟩
abbrev main_while0b_v87 : Ref sig .tc := ⟨.hbm, 40, rfl⟩
abbrev main_while0b_v88 : Ref sig .tc := ⟨.hbm, 41, rfl⟩
abbrev main_while0b_v89 : Ref sig .tc := ⟨.hbm, 42, rfl⟩
abbrev main_while0b_v90 : Ref sig .tc := ⟨.hbm, 43, rfl⟩
abbrev main_while0b_v91 : Ref sig .tc := ⟨.hbm, 44, rfl⟩
abbrev main_while0b_v92 : Ref sig .tc := ⟨.hbm, 45, rfl⟩
abbrev main_while0b_v93 : Ref sig .tc := ⟨.hbm, 46, rfl⟩
abbrev main_while0b_call1_v0 : Ref sig .tc := ⟨.hbm, 47, rfl⟩
abbrev main_while0b_v94 : Ref sig .tc := ⟨.hbm, 48, rfl⟩
abbrev main_while0b_c_26 : Ref sig .tc := ⟨.hbm, 49, rfl⟩
abbrev main_while0b_v95 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_3 : Ref sig .tc := ⟨.hbm, 63, rfl⟩
abbrev main_v24 : Ref sig .tc := ⟨.hbm, 64, rfl⟩
abbrev main_call2_v0 : Ref sig .tc := ⟨.hbm, 65, rfl⟩
abbrev main_call2_v1 : Ref sig .tc := ⟨.hbm, 66, rfl⟩
abbrev main_call2_c : Ref sig .tc := ⟨.hbm, 67, rfl⟩
abbrev main_call2_v2 : Ref sig .tc := ⟨.hbm, 68, rfl⟩
abbrev main_call2_v3 : Ref sig .tc := ⟨.hbm, 69, rfl⟩
abbrev main_call2_c_0 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_c_1 : Ref sig .tc := ⟨.hbm, 74, rfl⟩
abbrev main_call2_v7 : Ref sig .tc := ⟨.hbm, 75, rfl⟩
abbrev main_call2_v8 : Ref sig .tc := ⟨.hbm, 76, rfl⟩
abbrev main_call2_c_2 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v25 : Ref sig .tc := ⟨.hbm, 84, rfl⟩
abbrev main_v26 : Ref sig .tc := ⟨.hbm, 85, rfl⟩
abbrev main_cst_4 : Ref sig .tc := ⟨.hbm, 86, rfl⟩
abbrev main_v27 : Ref sig .tc := ⟨.hbm, 87, rfl⟩
abbrev main_v28 : Ref sig .tc := ⟨.hbm, 88, rfl⟩
abbrev main_cst_5 : Ref sig .tc := ⟨.hbm, 89, rfl⟩
abbrev main_v29 : Ref sig .tc := ⟨.hbm, 90, rfl⟩
abbrev main_v30 : Ref sig .tc := ⟨.hbm, 91, rfl⟩
abbrev main_cst_6 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_7 : Ref sig .tc := ⟨.hbm, 110, rfl⟩
abbrev main_v48 : Ref sig .tc := ⟨.hbm, 111, rfl⟩
abbrev main_v49 : Ref sig .tc := ⟨.hbm, 112, rfl⟩
abbrev main_cst_8 : Ref sig .tc := ⟨.hbm, 113, rfl⟩
abbrev main_v50 : Ref sig .tc := ⟨.hbm, 114, rfl⟩
abbrev main_cst_9 : Ref sig .tc := ⟨.hbm, 115, rfl⟩
abbrev main_v51 : Ref sig .tc := ⟨.hbm, 116, rfl⟩
abbrev main_c_10 : Ref sig .tc := ⟨.hbm, 117, rfl⟩
abbrev main_v52 : Ref sig .tc := ⟨.hbm, 118, rfl⟩
abbrev main_v53 : Ref sig .tc := ⟨.hbm, 119, rfl⟩
abbrev main_c_11 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_12 : Ref sig .tc := ⟨.hbm, 125, rfl⟩
abbrev main_v58 : Ref sig .tc := ⟨.hbm, 126, rfl⟩
abbrev main_v59 : Ref sig .tc := ⟨.hbm, 127, rfl⟩
abbrev main_cst_13 : Ref sig .tc := ⟨.hbm, 128, rfl⟩
abbrev main_v60 : Ref sig .tc := ⟨.hbm, 129, rfl⟩
abbrev main_cst_14 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_15 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_16 : Ref sig .tc := ⟨.hbm, 148, rfl⟩
abbrev main_v77 : Ref sig .tc := ⟨.hbm, 149, rfl⟩
abbrev main_cst_17 : Ref sig .tc := ⟨.hbm, 150, rfl⟩
abbrev main_v78 : Ref sig .tc := ⟨.hbm, 151, rfl⟩
abbrev main_cst_18 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩

abbrev nD : Nat := 1
abbrev τ : Topo := Topo.v7x

variable {F : FTy → Type} [FloatOps F]

abbrev main_while0_count : Scf.Loop 32 := ⟨0#32, 32#32, 1#32⟩
-- ==== Proof.Words.lean ====
/- The subject numbers: what the precondition `subjects_exist` says of them, and that it implies the side conditions the
   kernel's body assumes when it takes the rows of a subject out of its table. -/
module

public import proofs.«01_k».proof.Defs
public import proofs.«01_k».proof.Proof.Gen.Kernel.Frame
public import proofs.«01_k».proof.Proof.Gen.KernelIdeal.Frame
public import proofs.«01_k».proof.Proof.Gen.Pre_subjects_exist
public import Idealize.ShloMosaic.Lib.StableHlo.Predicate

@[expose] public section

set_option maxRecDepth 16384

namespace Cert.Words

open Idealize.ShloMosaic Idealize.ShloMosaic.TcCoe

/-- Two bits are both one when their conjunction is. -/
theorem andi_eq_one {a b : BitVec 1} (h : IntOp.andi a b = 1#1) : a = 1#1 ∧ b = 1#1 := by
  revert a b; decide

/-- One bit of two is one when their disjunction is. -/
theorem ori_eq_one {a b : BitVec 1} (h : IntOp.ori a b = 1#1) : a = 1#1 ∨ b = 1#1 := by
  revert a b; decide

/-- A word that is at least zero and below sixteen, both signed, is below sixteen unsigned. -/
theorem lt_of_cmp {w : BitVec 32} (h0 : IntOp.cmpi .sge w 0#32 = 1#1) (h1 : IntOp.cmpi .slt w 16#32 = 1#1) :
    w.toNat < 16 := by
  simp only [IntOp.cmpi, StableHlo.Predicate.ofBool_eq_one_iff, BitVec.sle, BitVec.slt, decide_eq_true_eq, BitVec.toInt, BitVec.toNat_ofNat] at h0 h1
  omega

/-- Eight rows from row eight times a subject number on lie inside the table of all subjects. -/
theorem rows_inside {w : BitVec 32} (h : w.toNat < 16) : (Scalar.indexCast (Scalar.muli w 8#32) : Index).toNat = 8 * w.toNat := by
  simp only [Scalar.indexCast, Scalar.muli, IntOp.muli, BitVec.toNat_mul, BitVec.toNat_ofNat]
  omega

/-- So the eight rows of one subject lie inside the table, axis by axis. -/
theorem inside {w : BitVec 32} (h : w.toNat < 16) (a : Fin 3) :
    (![(Scalar.indexCast (Scalar.muli w 8#32) : Index).toNat, 0, 0] : Fin 3 → ℕ) a + (![8, 33, 33] : Fin 3 → ℕ) a ≤ (![128, 33, 33] : Fin 3 → ℕ) a := by
  have e := rows_inside h
  match a with
  | 0 => show (Scalar.indexCast (Scalar.muli w 8#32) : Index).toNat + 8 ≤ 128; omega
  | 1 => exact Nat.le_refl 33
  | 2 => exact Nat.le_refl 33

/-- `subjects_exist` says each subject number is below sixteen. -/
theorem lt_of_exist {F : FTy → Type} [FloatOps F] {x0 : FVec F Cert.Pre_subjects_exist.S16x512x32 .f32} {x1 x2 x3 x4 x5}
    {w : IVec Cert.Pre_subjects_exist.S16 32} (h : Cert.Pre_subjects_exist.fn (F := F) x0 x1 x2 x3 x4 x5 w = fun _ => 1)
    (y : Cert.Pre_subjects_exist.S16.Idx) : (w y).toNat < 16 := by
  have e := congrFun h y
  simp only [Cert.Pre_subjects_exist.fn, andi, cmpi, broadcastInDim, constantI] at e
  obtain ⟨e0, e1⟩ := andi_eq_one e
  exact lt_of_cmp e0 e1

end Cert.Words

namespace Cert.Words.Kernel

open Cert.Kernel Cert.Kernel.Gen
open Idealize.ShloMosaic Idealize.ShloMosaic.TcCoe

/-- Side condition 1. -/
theorem check1 (w : BitVec 32) (h : w.toNat < 16) : k0_chk1 w := fun a => inside h a
/-- Side condition 2. -/
theorem check2 (w : BitVec 32) (h : w.toNat < 16) : k0_chk2 w := fun a => inside h a
/-- Side condition 3. -/
theorem check3 (w : BitVec 32) (h : w.toNat < 16) : k0_chk3 w := fun a => inside h a
/-- Side condition 4. -/
theorem check4 (w : BitVec 32) (h : w.toNat < 16) : k0_chk4 w := fun a => inside h a
/-- Side condition 5. -/
theorem check5 (w : BitVec 32) (h : w.toNat < 16) : k0_chk5 w := fun a => inside h a
/-- Side condition 6. -/
theorem check6 (w : BitVec 32) (h : w.toNat < 16) : k0_chk6 w := fun a => inside h a
/-- Side condition 7. -/
theorem check7 (w : BitVec 32) (h : w.toNat < 16) : k0_chk7 w := fun a => inside h a
/-- Side condition 8. -/
theorem check8 (w : BitVec 32) (h : w.toNat < 16) : k0_chk8 w := fun a => inside h a
/-- Side condition 9. -/
theorem check9 (w : BitVec 32) (h : w.toNat < 16) : k0_chk9 w := fun a => inside h a
/-- Side condition 10. -/
theorem check10 (w : BitVec 32) (h : w.toNat < 16) : k0_chk10 w := fun a => inside h a
/-- Side condition 11. -/
theorem check11 (w : BitVec 32) (h : w.toNat < 16) : k0_chk11 w := fun a => inside h a
/-- Side condition 12. -/
theorem check12 (w : BitVec 32) (h : w.toNat < 16) : k0_chk12 w := fun a => inside h a
/-- Side condition 13. -/
theorem check13 (w : BitVec 32) (h : w.toNat < 16) : k0_chk13 w := fun a => inside h a
/-- Side condition 14. -/
theorem check14 (w : BitVec 32) (h : w.toNat < 16) : k0_chk14 w := fun a => inside h a
/-- Side condition 15. -/
theorem check15 (w : BitVec 32) (h : w.toNat < 16) : k0_chk15 w := fun a => inside h a
/-- Side condition 16. -/
theorem check16 (w : BitVec 32) (h : w.toNat < 16) : k0_chk16 w := fun a => inside h a

/-- Every side condition the body of `Kernel` assumes holds when the subject numbers are below sixteen: it says that the
    eight rows of one subject lie inside the table. -/
theorem hyps (m : (ℓ : Loc nD τ sig) → Buf (Elt Bits) ℓ)
    (h : ∀ (c : Dev nD) (y : S16.Idx), (m ((c : Thread nD τ).loc main_arg6) y).toNat < 16) : Hyps m := by
  intro c t
  have rd : ∀ i, (iblk m c 0 t i).toNat < 16 := fun i => by
    unfold iblk; rw [View.read_apply, cast_eq]; exact h c _
  refine ⟨?_, ?_, ?_, ?_, ?_, ?_, ?_, ?_, ?_, ?_, ?_, ?_, ?_, ?_, ?_, ?_⟩
  · rw [View.readAt_apply, Memref.IsWhole.read_unread]; exact check1 _ (rd _)
  · rw [View.readAt_apply, Memref.IsWhole.read_unread]; exact check2 _ (rd _)
  · rw [View.readAt_apply, Memref.IsWhole.read_unread]; exact check3 _ (rd _)
  · rw [View.readAt_apply, Memref.IsWhole.read_unread]; exact check4 _ (rd _)
  · rw [View.readAt_apply, Memref.IsWhole.read_unread]; exact check5 _ (rd _)
  · rw [View.readAt_apply, Memref.IsWhole.read_unread]; exact check6 _ (rd _)
  · rw [View.readAt_apply, Memref.IsWhole.read_unread]; exact check7 _ (rd _)
  · rw [View.readAt_apply, Memref.IsWhole.read_unread]; exact check8 _ (rd _)
  · rw [View.readAt_apply, Memref.IsWhole.read_unread]; exact check9 _ (rd _)
  · rw [View.readAt_apply, Memref.IsWhole.read_unread]; exact check10 _ (rd _)
  · rw [View.readAt_apply, Memref.IsWhole.read_unread]; exact check11 _ (rd _)
  · rw [View.readAt_apply, Memref.IsWhole.read_unread]; exact check12 _ (rd _)
  · rw [View.readAt_apply, Memref.IsWhole.read_unread]; exact check13 _ (rd _)
  · rw [View.readAt_apply, Memref.IsWhole.read_unread]; exact check14 _ (rd _)
  · rw [View.readAt_apply, Memref.IsWhole.read_unread]; exact check15 _ (rd _)
  · rw [View.readAt_apply, Memref.IsWhole.read_unread]; exact check16 _ (rd _)

end Cert.Words.Kernel

namespace Cert.Words.KernelIdeal

open Cert.KernelIdeal Cert.KernelIdeal.Gen
open Idealize.ShloMosaic Idealize.ShloMosaic.TcCoe

/-- Side condition 1. -/
theorem check1 (w : BitVec 32) (h : w.toNat < 16) : k0_chk1 w := fun a => inside h a
/-- Side condition 2. -/
theorem check2 (w : BitVec 32) (h : w.toNat < 16) : k0_chk2 w := fun a => inside h a
/-- Side condition 3. -/
theorem check3 (w : BitVec 32) (h : w.toNat < 16) : k0_chk3 w := fun a => inside h a
/-- Side condition 4. -/
theorem check4 (w : BitVec 32) (h : w.toNat < 16) : k0_chk4 w := fun a => inside h a
/-- Side condition 5. -/
theorem check5 (w : BitVec 32) (h : w.toNat < 16) : k0_chk5 w := fun a => inside h a
/-- Side condition 6. -/
theorem check6 (w : BitVec 32) (h : w.toNat < 16) : k0_chk6 w := fun a => inside h a
/-- Side condition 7. -/
theorem check7 (w : BitVec 32) (h : w.toNat < 16) : k0_chk7 w := fun a => inside h a
/-- Side condition 8. -/
theorem check8 (w : BitVec 32) (h : w.toNat < 16) : k0_chk8 w := fun a => inside h a
/-- Side condition 9. -/
theorem check9 (w : BitVec 32) (h : w.toNat < 16) : k0_chk9 w := fun a => inside h a
/-- Side condition 10. -/
theorem check10 (w : BitVec 32) (h : w.toNat < 16) : k0_chk10 w := fun a => inside h a
/-- Side condition 11. -/
theorem check11 (w : BitVec 32) (h : w.toNat < 16) : k0_chk11 w := fun a => inside h a
/-- Side condition 12. -/
theorem check12 (w : BitVec 32) (h : w.toNat < 16) : k0_chk12 w := fun a => inside h a
/-- Side condition 13. -/
theorem check13 (w : BitVec 32) (h : w.toNat < 16) : k0_chk13 w := fun a => inside h a
/-- Side condition 14. -/
theorem check14 (w : BitVec 32) (h : w.toNat < 16) : k0_chk14 w := fun a => inside h a
/-- Side condition 15. -/
theorem check15 (w : BitVec 32) (h : w.toNat < 16) : k0_chk15 w := fun a => inside h a
/-- Side condition 16. -/
theorem check16 (w : BitVec 32) (h : w.toNat < 16) : k0_chk16 w := fun a => inside h a

/-- Every side condition the body of `KernelIdeal` assumes holds when the subject numbers are below sixteen: it says that the
    eight rows of one subject lie inside the table. -/
theorem hyps (m : (ℓ : Loc nD τ sig) → Buf (Elt Ideal) ℓ)
    (h : ∀ (c : Dev nD) (y : S16.Idx), (m ((c : Thread nD τ).loc main_arg6) y).toNat < 16) : Hyps m := by
  intro c t
  have rd : ∀ i, (iblk m c 0 t i).toNat < 16 := fun i => by
    unfold iblk; rw [View.read_apply, cast_eq]; exact h c _
  refine ⟨?_, ?_, ?_, ?_, ?_, ?_, ?_, ?_, ?_, ?_, ?_, ?_, ?_, ?_, ?_, ?_⟩
  · rw [View.readAt_apply, Memref.IsWhole.read_unread]; exact check1 _ (rd _)
  · rw [View.readAt_apply, Memref.IsWhole.read_unread]; exact check2 _ (rd _)
  · rw [View.readAt_apply, Memref.IsWhole.read_unread]; exact check3 _ (rd _)
  · rw [View.readAt_apply, Memref.IsWhole.read_unread]; exact check4 _ (rd _)
  · rw [View.readAt_apply, Memref.IsWhole.read_unread]; exact check5 _ (rd _)
  · rw [View.readAt_apply, Memref.IsWhole.read_unread]; exact check6 _ (rd _)
  · rw [View.readAt_apply, Memref.IsWhole.read_unread]; exact check7 _ (rd _)
  · rw [View.readAt_apply, Memref.IsWhole.read_unread]; exact check8 _ (rd _)
  · rw [View.readAt_apply, Memref.IsWhole.read_unread]; exact check9 _ (rd _)
  · rw [View.readAt_apply, Memref.IsWhole.read_unread]; exact check10 _ (rd _)
  · rw [View.readAt_apply, Memref.IsWhole.read_unread]; exact check11 _ (rd _)
  · rw [View.readAt_apply, Memref.IsWhole.read_unread]; exact check12 _ (rd _)
  · rw [View.readAt_apply, Memref.IsWhole.read_unread]; exact check13 _ (rd _)
  · rw [View.readAt_apply, Memref.IsWhole.read_unread]; exact check14 _ (rd _)
  · rw [View.readAt_apply, Memref.IsWhole.read_unread]; exact check15 _ (rd _)
  · rw [View.readAt_apply, Memref.IsWhole.read_unread]; exact check16 _ (rd _)

end Cert.Words.KernelIdeal
-- ==== Proof.Math.lean ====
/- The real mathematics of the claim: two ways to invert a lower triangle, and a quadratic form written as one sum over a
   bordered matrix. -/
module

public import Mathlib.Data.Matrix.Basic
public import Mathlib.LinearAlgebra.Matrix.NonsingularInverse
public import Mathlib.Analysis.SpecialFunctions.Log.Basic
public import Mathlib.Tactic.Ring
public import Mathlib.Tactic.NoncommRing
public import Mathlib.Tactic.FieldSimp
public import Mathlib.Tactic.Linarith

@[expose] public section

noncomputable section

namespace Cert.RealMath

/-- The square real matrices with 32 rows. -/
abbrev M32 := Matrix (Fin 32) (Fin 32) ℝ

/-- The lower triangle of `L`, its diagonal included. -/
def lower (L : M32) : M32 := fun i j => if j ≤ i then L i j else 0

/-- The part of `L` strictly below its diagonal. -/
def strict (L : M32) : M32 := fun i j => if j < i then L i j else 0

/-! ## The product form of the inverse -/

/-- The strict lower triangle, negated, each row divided by the diagonal's entry. -/
def scaled (L : M32) : M32 := fun i j => -strict L i j * (L i i)⁻¹

/-- Of a strictly lower triangular matrix the n-th power reaches n rows below the diagonal at least. -/
theorem pow_strict (N : M32) (h : ∀ i j : Fin 32, i ≤ j → N i j = 0) (n : ℕ) (i j : Fin 32) (hij : (i : ℕ) < j + n) :
    (N ^ n) i j = 0 := by
  induction n generalizing i with
  | zero =>
    rw [pow_zero, Matrix.one_apply_ne]
    rintro rfl; omega
  | succ n ih =>
    rw [pow_succ', Matrix.mul_apply]
    refine Finset.sum_eq_zero fun k _ => ?_
    by_cases hk : i ≤ k
    · rw [h i k hk, zero_mul]
    · rw [ih k (by have : (k : ℕ) < i := by simpa using hk
                   omega), mul_zero]

/-- So its 32nd power is zero. -/
theorem pow_32 (N : M32) (h : ∀ i j : Fin 32, i ≤ j → N i j = 0) : N ^ 32 = 0 := by
  ext i j
  exact pow_strict N h 32 i j (by omega)

/-- Five factors of the geometric series. -/
def series (N : M32) : M32 :=
  let N2 := N * N
  let N4 := N2 * N2
  let N8 := N4 * N4
  let N16 := N8 * N8
  let X0 := 1 + N
  let X1 := X0 + X0 * N2
  let X2 := X1 + X1 * N4
  let X3 := X2 + X2 * N8
  X3 + X3 * N16

/-- One factor more: what is left of one squares. -/
theorem series_step (N X M : M32) (h : (1 - N) * X = 1 - M) : (1 - N) * (X + X * M) = 1 - M * M := by
  rw [mul_add, ← mul_assoc, h]
  noncomm_ring

/-- The five factors are the inverse of one minus a strictly lower triangular matrix. -/
theorem series_spec (N : M32) (h : ∀ i j : Fin 32, i ≤ j → N i j = 0) : (1 - N) * series N = 1 := by
  have h0 : (1 - N) * (1 + N) = 1 - N * N := by noncomm_ring
  have h1 := series_step _ _ _ (series_step _ _ _ (series_step _ _ _ (series_step _ _ _ h0)))
  simp only [← pow_two, ← pow_mul, Nat.reduceMul, Nat.reducePow] at h1
  rw [pow_32 N h, sub_zero] at h1
  unfold series
  simp only [← pow_two, ← pow_mul, Nat.reduceMul, Nat.reducePow]
  exact h1

/-- The inverse by the product: the series' columns divided by the diagonal. -/
def productInverse (L : M32) : M32 := fun i j => series (scaled L) i j * (L j j)⁻¹

/-- The lower triangle is its diagonal times one minus the scaled strict triangle. -/
theorem lower_eq (L : M32) (hd : ∀ i, L i i ≠ 0) : lower L = Matrix.diagonal (fun i => L i i) * (1 - scaled L) := by
  ext i j
  rw [Matrix.diagonal_mul, Matrix.sub_apply, Matrix.one_apply]
  unfold lower scaled strict
  rcases lt_trichotomy i j with hij | rfl | hij
  · rw [if_neg (not_le.2 hij), if_neg hij.ne, if_neg (not_lt.2 hij.le)]; ring
  · simp
  · rw [if_pos hij.le, if_neg hij.ne', if_pos hij]
    have := hd i
    field_simp; ring

/-- The product form inverts the lower triangle. -/
theorem product_spec (L : M32) (hd : ∀ i, L i i ≠ 0) : lower L * productInverse L = 1 := by
  have hs : ∀ i j : Fin 32, i ≤ j → scaled L i j = 0 := fun i j hij => by
    unfold scaled strict; rw [if_neg (not_lt.2 hij)]; ring
  have hp : productInverse L = series (scaled L) * Matrix.diagonal (fun i => (L i i)⁻¹) := by
    ext i j; rw [Matrix.mul_diagonal]; rfl
  rw [hp, lower_eq L hd, Matrix.mul_assoc, ← Matrix.mul_assoc (1 - scaled L), series_spec _ hs, Matrix.one_mul,
    Matrix.diagonal_mul_diagonal]
  ext i j
  rw [Matrix.diagonal_apply, Matrix.one_apply]
  split
  · exact mul_inv_cancel₀ (hd i)
  · rfl

/-! ## Forward substitution -/

/-- The rows solved in turn: row `n` in step `n`. -/
def forward (L : M32) : ℕ → M32
  | 0 => 0
  | n + 1 => fun i j => if (i : ℕ) = n then ((if i = j then 1 else 0) - ∑ k, strict L i k * forward L n k j) * (L i i)⁻¹
      else forward L n i j

/-- One step's entry. -/
theorem forward_succ (L : M32) (n : ℕ) (i j : Fin 32) : forward L (n + 1) i j = if (i : ℕ) = n then
    ((if i = j then 1 else 0) - ∑ k, strict L i k * forward L n k j) * (L i i)⁻¹ else forward L n i j := rfl

/-- After `n` steps the first `n` rows solve their equations. -/
theorem forward_rows (L : M32) (hd : ∀ i, L i i ≠ 0) (n : ℕ) (i j : Fin 32) (hi : (i : ℕ) < n) :
    L i i * forward L n i j + ∑ k, strict L i k * forward L n k j = if i = j then 1 else 0 := by
  induction n with
  | zero => omega
  | succ n ih =>
    have same : ∑ k, strict L i k * forward L (n + 1) k j = ∑ k, strict L i k * forward L n k j := by
      refine Finset.sum_congr rfl fun k _ => ?_
      by_cases hk : k < i
      · have hkn : (k : ℕ) ≠ n := by have : (k : ℕ) < i := hk
                                     omega
        rw [forward_succ, if_neg hkn]
      · unfold strict; rw [if_neg hk, zero_mul, zero_mul]
    rw [same]
    by_cases hin : (i : ℕ) = n
    · have := hd i
      rw [forward_succ, if_pos hin]
      field_simp; ring
    · rw [forward_succ, if_neg hin]
      exact ih (by omega)

/-- After 32 steps forward substitution has inverted the lower triangle. -/
theorem forward_spec (L : M32) (hd : ∀ i, L i i ≠ 0) : lower L * forward L 32 = 1 := by
  ext i j
  rw [Matrix.mul_apply, Matrix.one_apply, ← forward_rows L hd 32 i j i.2]
  have e : ∀ k, lower L i k * forward L 32 k j
      = (if k = i then L i i * forward L 32 i j else 0) + strict L i k * forward L 32 k j := fun k => by
    unfold lower strict
    rcases lt_trichotomy k i with h | rfl | h
    · rw [if_pos h.le, if_neg h.ne, if_pos h]; ring
    · simp
    · rw [if_neg (not_le.2 h), if_neg h.ne', if_neg (not_lt.2 h.le)]; ring
  rw [Finset.sum_congr rfl fun k _ => e k, Finset.sum_add_distrib, Finset.sum_ite_eq' Finset.univ i, if_pos (Finset.mem_univ i)]

/-- The two inverses are one. -/
theorem forward_eq_product (L : M32) (hd : ∀ i, L i i ≠ 0) : forward L 32 = productInverse L := by
  rw [← Matrix.inv_eq_right_inv (forward_spec L hd), ← Matrix.inv_eq_right_inv (product_spec L hd)]

/-! ## The quadratic form -/

/-- The squared length of `V (x - μ)`. -/
def quad (V : M32) (μ x : Fin 32 → ℝ) : ℝ := ∑ d, (∑ e, (x e - μ e) * V d e) * (∑ e, (x e - μ e) * V d e)

/-- A row of 32 numbers with a one behind it. -/
def bordered (x : Fin 32 → ℝ) (i : Fin 33) : ℝ := if h : (i : ℕ) < 32 then x ⟨i, h⟩ else 1

/-- The entries of `A μ`. -/
def applied (A : M32) (μ : Fin 32 → ℝ) (i : Fin 32) : ℝ := ∑ j, A i j * μ j

/-- The bordered matrix: `A`, minus `A μ` to its right and below it, and the constant in the corner. -/
def border (A : M32) (μ : Fin 32 → ℝ) (C : ℝ) (i j : Fin 33) : ℝ :=
  if hi : (i : ℕ) < 32 then
    if hj : (j : ℕ) < 32 then A ⟨i, hi⟩ ⟨j, hj⟩ else -applied A μ ⟨i, hi⟩
  else if hj : (j : ℕ) < 32 then -applied A μ ⟨j, hj⟩ else (∑ i, μ i * applied A μ i) - 2 * C

/-- The squared length through the matrix `Vᵀ V`. -/
theorem quad_eq (V : M32) (μ x : Fin 32 → ℝ) :
    quad V μ x = ∑ i, ∑ j, (V.transpose * V) i j * ((x i - μ i) * (x j - μ j)) := by
  unfold quad
  simp only [Matrix.mul_apply, Matrix.transpose_apply, Finset.sum_mul, Finset.mul_sum]
  rw [Finset.sum_comm]
  refine Finset.sum_congr rfl fun i _ => ?_
  rw [Finset.sum_comm]
  refine Finset.sum_congr rfl fun j _ => Finset.sum_congr rfl fun d _ => ?_
  ring

/-- The bordered matrix at a bordered row: the squared length less twice the constant. -/
theorem border_eq (V : M32) (μ x : Fin 32 → ℝ) (C : ℝ) :
    ∑ i, ∑ j, border (V.transpose * V) μ C i j * (bordered x i * bordered x j) = quad V μ x - 2 * C := by
  have sym : ∀ i j, (V.transpose * V) i j = (V.transpose * V) j i := fun i j => by
    simp only [Matrix.mul_apply, Matrix.transpose_apply]
    exact Finset.sum_congr rfl fun k _ => mul_comm _ _
  rw [quad_eq]
  generalize V.transpose * V = A at sym ⊢
  have b1 : ∀ i : Fin 32, bordered x i.castSucc = x i := fun i => by simp [bordered]
  have b2 : bordered x (Fin.last 32) = 1 := by simp [bordered]
  have c1 : ∀ i j : Fin 32, border A μ C i.castSucc j.castSucc = A i j := fun i j => by simp [border]
  have c2 : ∀ i : Fin 32, border A μ C i.castSucc (Fin.last 32) = -applied A μ i := fun i => by simp [border]
  have c3 : ∀ j : Fin 32, border A μ C (Fin.last 32) j.castSucc = -applied A μ j := fun i => by simp [border]
  have c4 : border A μ C (Fin.last 32) (Fin.last 32) = (∑ i, μ i * applied A μ i) - 2 * C := by simp [border]
  have s33 : ∀ f : Fin 33 → ℝ, ∑ i, f i = ∑ i : Fin 32, f i.castSucc + f (Fin.last 32) := fun f => Fin.sum_univ_castSucc f
  simp only [s33, b1, b2, c1, c2, c3, c4, one_mul, mul_one, Finset.sum_add_distrib]
  have e1 : ∑ i, ∑ j, A i j * ((x i - μ i) * (x j - μ j))
      = ∑ i, ∑ j, A i j * (x i * x j) - ∑ i, ∑ j, A i j * μ j * x i - ∑ i, ∑ j, A i j * μ i * x j
        + ∑ i, ∑ j, μ i * (A i j * μ j) := by
    simp only [← Finset.sum_sub_distrib, ← Finset.sum_add_distrib]
    refine Finset.sum_congr rfl fun i _ => Finset.sum_congr rfl fun j _ => ?_
    ring
  have e2 : ∑ i, ∑ j, A i j * μ i * x j = ∑ i, ∑ j, A i j * μ j * x i := by
    rw [Finset.sum_comm]
    refine Finset.sum_congr rfl fun i _ => Finset.sum_congr rfl fun j _ => ?_
    rw [sym]
  rw [e1, e2]
  simp only [applied, Finset.mul_sum, neg_mul, Finset.sum_mul, Finset.sum_neg_distrib]
  ring

end Cert.RealMath

end
-- ==== Proof.Coe.lean ====
/- Ideal numbers that are real: sums, quotients, logarithms, constants and masks of real numbers are real. -/
module

public import proofs.«01_k».proof.Proof.Math
public import Idealize.ShloMosaic.Lib.Pointwise
public import Idealize.ShloMosaic.Lib.StableHlo.Predicate

@[expose] public section

set_option maxRecDepth 16384

noncomputable section

namespace Cert.Coe

open Idealize.ShloMosaic

/-- A finite sum of reals, taken at ideal numbers, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals by a divisor other than zero. -/
theorem div_real {a b : ℝ} (h : b ≠ 0) : Ideal.div (a : EReal) (b : EReal) = ((a * b⁻¹ : ℝ) : EReal) := by
  rw [Ideal.div_coe h, ← EReal.coe_mul, one_div]

/-- The logarithm of a positive real. -/
theorem log_real {r : ℝ} (h : 0 < r) : Ideal.log (r : EReal) = ((Real.log r : ℝ) : EReal) := by
  rw [Ideal.log_coe, if_neg (not_le.2 h)]

/-- A number that is less than infinity in absolute value is real. -/
theorem real_of_abs_lt {x : EReal} (h : max x (-x) < ⊤) : x = ((x.toReal : ℝ) : EReal) := by
  refine (EReal.coe_toReal ?_ ?_).symm
  · rintro rfl; simp at h
  · rintro rfl; simp at h

/-! ## The constants of the two programs -/

/-- A normal 32-bit pattern by its sign, exponent and fraction. -/
theorem ofBits_normal (b : BitVec 32) (s : Bool) (ex fr : ℕ) (hs : (b.extractLsb' 31 1 == 1#1) = s) (he : (b.extractLsb' 23 8).toNat = ex)
    (hf : (b.extractLsb' 0 23).toNat = fr) (h0 : ex ≠ 0) (h1 : ex ≠ 255) :
    Ideal.ofBits .f32 b = (((if s then -1 else 1) * ((2 ^ 23 + fr : ℕ) : ℝ) * (2 : ℝ) ^ ((ex : ℤ) - (2 ^ (8 - 1) - 1) - 23) : ℝ) : EReal) := by
  show Ideal.ieee 8 23 b = _
  unfold Ideal.ieee
  dsimp only
  rw [if_neg, if_neg]
  · rw [hs, he, hf]; push_cast; rfl
  · rw [he]; exact h0
  · rw [he]; exact h1

/-- Minus half of 32 times the logarithm of two pi, as the programs write it. -/
def logConst : ℝ := -(7708615 / 262144)

/-- The programs' 0.05. -/
def weight : ℝ := 13421773 / 268435456

/-- The constant in the logarithm of a density. -/
theorem ofBits_logConst : Ideal.ofBits .f32 0xC1EB3F8E#32 = ((logConst : ℝ) : EReal) := by
  rw [ofBits_normal _ true 131 7028622 (by decide) (by decide) (by decide) (by decide) (by decide)]
  unfold logConst; norm_num

/-- The weight of either part of the regulariser. -/
theorem ofBits_weight : Ideal.ofBits .f32 0x3D4CCCCD#32 = ((weight : ℝ) : EReal) := by
  rw [ofBits_normal _ false 122 5033165 (by decide) (by decide) (by decide) (by decide) (by decide)]
  unfold weight; norm_num

/-- One half. -/
theorem ofBits_half : Ideal.ofBits .f32 0x3F000000#32 = ((2⁻¹ : ℝ) : EReal) := by
  rw [ofBits_normal _ false 126 0 (by decide) (by decide) (by decide) (by decide) (by decide)]
  norm_num

/-- Two. -/
theorem ofBits_two : Ideal.ofBits .f32 0x40000000#32 = ((2 : ℝ) : EReal) := by
  rw [ofBits_normal _ false 128 0 (by decide) (by decide) (by decide) (by decide) (by decide)]
  norm_num

/-- The number of tokens. -/
theorem ofBits_8192 : Ideal.ofBits .f32 0x46000000#32 = ((8192 : ℝ) : EReal) := by
  rw [ofBits_normal _ false 140 0 (by decide) (by decide) (by decide) (by decide) (by decide)]
  norm_num

/-- The number of subjects. -/
theorem ofBits_16 : Ideal.ofBits .f32 0x41800000#32 = ((16 : ℝ) : EReal) := by
  rw [ofBits_normal _ false 131 0 (by decide) (by decide) (by decide) (by decide) (by decide)]
  norm_num

/-- Infinity. -/
theorem ofBits_top : Ideal.ofBits .f32 0x7F800000#32 = ⊤ := by
  simp [Ideal.ofBits, Ideal.ieee]

/-- Minus infinity. -/
theorem ofBits_bot : Ideal.ofBits .f32 0xFF800000#32 = ⊥ := by
  simp [Ideal.ofBits, Ideal.ieee]

/-! ## Masks -/

/-- The widened bit of a decided proposition, as a signed number. -/
theorem sitofp_ofBool (b : Bool) : (FloatOps.sitofp .f32 (BitVec.setWidth 32 (BitVec.ofBool b)) : Ideal .f32) = ((if b then (1 : ℝ) else 0 : ℝ) : EReal) := by
  cases b
  · show (((0 : ℤ) : ℝ) : EReal) = _; simp
  · show (((1 : ℤ) : ℝ) : EReal) = _; simp

/-- The bit of a decided proposition, as an unsigned number. -/
theorem uitofp_ofBool (b : Bool) : (FloatOps.uitofp .f32 (BitVec.ofBool b) : Ideal .f32) = ((if b then (1 : ℝ) else 0 : ℝ) : EReal) := by
  cases b
  · show (((0 : ℕ) : ℝ) : EReal) = _; simp
  · show (((1 : ℕ) : ℝ) : EReal) = _; simp

/-- Two small naturals are equal as words exactly when they are equal. -/
theorem cmpi_eq_ofNat {a b : ℕ} (ha : a < 1024) (hb : b < 1024) :
    IntOp.cmpi .eq (BitVec.ofNat 32 a) (BitVec.ofNat 32 b) = BitVec.ofBool (decide (a = b)) := by
  simp only [IntOp.cmpi]
  congr 1
  rw [Bool.eq_iff_iff]
  simp only [beq_iff_eq, decide_eq_true_eq]
  refine ⟨fun h => ?_, fun h => by rw [h]⟩
  have := congrArg BitVec.toNat h
  simp only [BitVec.toNat_ofNat] at this
  omega

/-- A small natural exceeds another as a word exactly when it does. -/
theorem cmpi_sgt_ofNat {a b : ℕ} (ha : a < 1024) (hb : b < 1024) :
    IntOp.cmpi .sgt (BitVec.ofNat 32 a) (BitVec.ofNat 32 b) = BitVec.ofBool (decide (b < a)) := by
  simp only [IntOp.cmpi, BitVec.slt, BitVec.toInt, BitVec.toNat_ofNat]
  congr 1
  rw [Bool.eq_iff_iff]
  simp only [decide_eq_true_eq]
  omega

/-- The kernel's mask of two equal coordinates. -/
theorem mask_eq {n : ℕ} (hn : n ≤ 1024) (a b : Fin n) :
    (FloatOps.sitofp .f32 (BitVec.setWidth 32 (IntOp.cmpi .eq (BitVec.ofNat 32 (a : ℕ)) (BitVec.ofNat 32 (b : ℕ)))) : Ideal .f32)
      = ((if a = b then (1 : ℝ) else 0 : ℝ) : EReal) := by
  rw [cmpi_eq_ofNat (by omega) (by omega), sitofp_ofBool]
  simp only [decide_eq_true_eq, Fin.ext_iff]

/-- The kernel's mask of a coordinate above another. -/
theorem mask_gt {n : ℕ} (hn : n ≤ 1024) (a b : Fin n) :
    (FloatOps.sitofp .f32 (BitVec.setWidth 32 (IntOp.cmpi .sgt (BitVec.ofNat 32 (a : ℕ)) (BitVec.ofNat 32 (b : ℕ)))) : Ideal .f32)
      = ((if b < a then (1 : ℝ) else 0 : ℝ) : EReal) := by
  rw [cmpi_sgt_ofNat (by omega) (by omega), sitofp_ofBool]
  simp only [decide_eq_true_eq, Fin.lt_def]

/-- The reference's mask of two equal coordinates. -/
theorem umask_eq {n : ℕ} (hn : n ≤ 1024) (a b : Fin n) :
    (FloatOps.uitofp .f32 (IntOp.cmpi .eq (BitVec.ofNat 32 (a : ℕ)) (BitVec.ofNat 32 (b : ℕ))) : Ideal .f32)
      = ((if a = b then (1 : ℝ) else 0 : ℝ) : EReal) := by
  rw [cmpi_eq_ofNat (by omega) (by omega), uitofp_ofBool]
  simp only [decide_eq_true_eq, Fin.ext_iff]

/-- The greatest of several zeros and ones, from minus infinity: one when one of them is. -/
theorem fold_max {n : ℕ} (hn : 0 < n) (p : Fin n → Prop) [DecidablePred p] :
    Finset.univ.fold max (⊥ : EReal) (fun b => ((if p b then (1 : ℝ) else 0 : ℝ) : EReal))
      = ((if ∃ b, p b then (1 : ℝ) else 0 : ℝ) : EReal) := by
  split_ifs with h
  · obtain ⟨b, hb⟩ := h
    refine le_antisymm ((Finset.fold_max_le _).2 ⟨bot_le, fun x _ => ?_⟩) ((Finset.le_fold_max _).2 (.inr ⟨b, Finset.mem_univ _, ?_⟩))
    · split_ifs <;> simp
    · rw [if_pos hb]
  · refine le_antisymm ((Finset.fold_max_le _).2 ⟨bot_le, fun x _ => ?_⟩)
      ((Finset.le_fold_max _).2 (.inr ⟨⟨0, hn⟩, Finset.mem_univ _, ?_⟩))
    · rw [if_neg fun hx => h ⟨x, hx⟩]
    · rw [if_neg fun hx => h ⟨_, hx⟩]

end Cert.Coe

end
-- ==== Proof.Loss.lean ====
/- The loss both programs compute, as a number: the mean negative log-likelihood of the tokens, which is real, and the
   regulariser, which may be infinite when a population's mean or factor is. -/
module

public import proofs.«01_k».proof.Proof.Coe

@[expose] public section

noncomputable section

namespace Cert.Loss

open Idealize.ShloMosaic Cert.RealMath Cert.Coe

/-- The part of a token's log density that does not depend on the token. -/
def constantPart (L : M32) : ℝ := logConst - ∑ i, Real.log (L i i)

/-- The mean negative log-likelihood: over blocks, tokens and components, the weight times the log density, which is
    a constant less half of a squared length. -/
def nll (s : Fin 16 → Fin 16) (x : Fin 16 → Fin 512 → Fin 32 → ℝ) (μ : Fin 16 → Fin 8 → Fin 32 → ℝ) (L : Fin 16 → Fin 8 → M32)
    (g : Fin 16 → Fin 512 → Fin 8 → ℝ) : ℝ :=
  -(∑ b, ∑ t, ∑ k, g b t k * (constantPart (L (s b) k) - 2⁻¹ * quad (productInverse (L (s b) k)) (μ (s b) k) (x b t))) * 8192⁻¹

/-- One for a subject that some block belongs to, else zero. -/
def presence (s : Fin 16 → Fin 16) (p : Fin 16) : EReal := ((if ∃ b, p = s b then (1 : ℝ) else 0 : ℝ) : EReal)

/-- It is one or zero. -/
theorem presence_cases (s : Fin 16 → Fin 16) (p : Fin 16) : presence s p = 0 ∨ presence s p = 1 := by
  unfold presence; split_ifs <;> simp

/-- A presence may be multiplied into a sum. -/
theorem presence_mul_sum {ι : Type} [Fintype ι] (s : Fin 16 → Fin 16) (p : Fin 16) (f : ι → EReal) :
    presence s p * ∑ i, f i = ∑ i, presence s p * f i := by
  rcases presence_cases s p with h | h <;> simp [h]

/-- How far the present subjects' means are from the population's, squared. -/
def means (s : Fin 16 → Fin 16) (μ : Fin 16 → Fin 8 → Fin 32 → EReal) (w : Fin 8 → Fin 32 → EReal) : EReal :=
  ∑ p, presence s p * ∑ k, ∑ e, (μ p k e - w k e) * (μ p k e - w k e)

/-- How far the present subjects' factors are from the population's, squared. -/
def factors (s : Fin 16 → Fin 16) (L : Fin 16 → Fin 8 → Fin 32 → Fin 32 → EReal) (w : Fin 8 → Fin 32 → Fin 32 → EReal) : EReal :=
  ∑ p, presence s p * ∑ k, ∑ i, ∑ j, (L p k i j - w k i j) * (L p k i j - w k i j)

/-- The regulariser. -/
def regulariser (s : Fin 16 → Fin 16) (μ : Fin 16 → Fin 8 → Fin 32 → EReal) (w : Fin 8 → Fin 32 → EReal)
    (L : Fin 16 → Fin 8 → Fin 32 → Fin 32 → EReal) (v : Fin 8 → Fin 32 → Fin 32 → EReal) : EReal :=
  Ideal.div (∑ p, presence s p) ((16 : ℝ) : EReal) * (((weight : ℝ) : EReal) * means s μ w + ((weight : ℝ) : EReal) * factors s L v)

/-- A sum over the 128 pairs of a subject and a component, or of a block and a component. -/
theorem sum_pairs {M : Type} [AddCommMonoid M] (f : Fin 128 → M) :
    ∑ q, f q = ∑ b : Fin 16, ∑ k : Fin 8, f ⟨8 * b.val + k.val, by omega⟩ := by
  rw [← (finProdFinEquiv (m := 16) (n := 8)).sum_comp f, Fintype.sum_prod_type]
  refine Finset.sum_congr rfl fun b _ => Finset.sum_congr rfl fun k _ => congrArg f (Fin.ext ?_)
  simp only [finProdFinEquiv_apply_val]
  omega

/-- A sum over the 8192 tokens, block by block. -/
theorem sum_tokens {M : Type} [AddCommMonoid M] (f : Fin 8192 → M) :
    ∑ q, f q = ∑ b : Fin 16, ∑ t : Fin 512, f ⟨512 * b.val + t.val, by omega⟩ := by
  rw [← (finProdFinEquiv (m := 16) (n := 512)).sum_comp f, Fintype.sum_prod_type]
  refine Finset.sum_congr rfl fun b _ => Finset.sum_congr rfl fun k _ => congrArg f (Fin.ext ?_)
  simp only [finProdFinEquiv_apply_val]
  omega

/-- The loss through bordered matrices and weighted second moments. -/
theorem nll_eq (s : Fin 16 → Fin 16) (x : Fin 16 → Fin 512 → Fin 32 → ℝ) (μ : Fin 16 → Fin 8 → Fin 32 → ℝ) (L : Fin 16 → Fin 8 → M32)
    (g : Fin 16 → Fin 512 → Fin 8 → ℝ) :
    2⁻¹ * (∑ b, ∑ k, ∑ i, ∑ j, border ((productInverse (L (s b) k)).transpose * productInverse (L (s b) k)) (μ (s b) k) (constantPart (L (s b) k)) i j
        * ∑ t, g b t k * bordered (x b t) i * bordered (x b t) j) * 8192⁻¹ = nll s x μ L g := by
  unfold nll
  have e : ∀ b k, ∑ i, ∑ j, border ((productInverse (L (s b) k)).transpose * productInverse (L (s b) k)) (μ (s b) k) (constantPart (L (s b) k)) i j
        * ∑ t, g b t k * bordered (x b t) i * bordered (x b t) j
      = ∑ t, g b t k * (quad (productInverse (L (s b) k)) (μ (s b) k) (x b t) - 2 * constantPart (L (s b) k)) := fun b k => by
    simp only [← border_eq, Finset.mul_sum]
    conv_rhs => rw [Finset.sum_comm]
    refine Finset.sum_congr rfl fun i _ => ?_
    conv_rhs => rw [Finset.sum_comm]
    refine Finset.sum_congr rfl fun j _ => Finset.sum_congr rfl fun t _ => ?_
    ring
  simp only [e]
  congr 1
  rw [← Finset.sum_neg_distrib, Finset.mul_sum]
  refine Finset.sum_congr rfl fun b _ => ?_
  rw [Finset.sum_comm, ← Finset.sum_neg_distrib, Finset.mul_sum]
  refine Finset.sum_congr rfl fun t _ => ?_
  rw [← Finset.sum_neg_distrib, Finset.mul_sum]
  refine Finset.sum_congr rfl fun k _ => ?_
  ring

end Cert.Loss

end
-- ==== Proof.Data.lean ====
/- The real data behind the arguments that must be finite. -/
module

public import proofs.«01_k».proof.Proof.Loss
public import Idealize.ShloMosaic.Lib.Pointwise

@[expose] public section

noncomputable section

namespace Cert.Loss

open Cert.RealMath
open Idealize.ShloMosaic

/-- The arguments hold these numbers: the tokens, the subjects' means and factors, the tokens' weights, the blocks' subjects. The factors'
    diagonals are positive. Of the population's mean and factor nothing is asked. -/
structure Data (a0 : FVec Ideal ⟨3, ![16, 512, 32]⟩ .f32) (a3 : FVec Ideal ⟨3, ![16, 8, 32]⟩ .f32) (a4 : FVec Ideal ⟨4, ![16, 8, 32, 32]⟩ .f32)
    (a5 : FVec Ideal ⟨3, ![16, 512, 8]⟩ .f32) (a6 : IVec ⟨1, ![16]⟩ 32)
    (s : Fin 16 → Fin 16) (x : Fin 16 → Fin 512 → Fin 32 → ℝ) (μ : Fin 16 → Fin 8 → Fin 32 → ℝ) (L : Fin 16 → Fin 8 → M32)
    (g : Fin 16 → Fin 512 → Fin 8 → ℝ) : Prop where
  token : ∀ b t d, a0 (ix3 b t d) = ((x b t d : ℝ) : EReal)
  mean : ∀ p k e, a3 (ix3 p k e) = ((μ p k e : ℝ) : EReal)
  factor : ∀ p k i j, a4 (ix4 p k i j) = ((L p k i j : ℝ) : EReal)
  weight : ∀ b t k, a5 (ix3 b t k) = ((g b t k : ℝ) : EReal)
  subject : ∀ b, a6 (ix1 b) = BitVec.ofNat 32 (s b).val
  positive : ∀ p k i, 0 < L p k i i

/-- The loss: the real negative log likelihood, and the regulariser, which the population's numbers may make infinite. -/
def loss (s : Fin 16 → Fin 16) (x : Fin 16 → Fin 512 → Fin 32 → ℝ) (μ : Fin 16 → Fin 8 → Fin 32 → ℝ) (L : Fin 16 → Fin 8 → M32)
    (g : Fin 16 → Fin 512 → Fin 8 → ℝ) (a1 : FVec Ideal ⟨2, ![8, 32]⟩ .f32) (a2 : FVec Ideal ⟨3, ![8, 32, 32]⟩ .f32) : EReal :=
  ((nll s x μ L g : ℝ) : EReal) + regulariser s (fun p k e => ((μ p k e : ℝ) : EReal)) (fun k e => a1 (ix2 k e))
    (fun p k i j => ((L p k i j : ℝ) : EReal)) (fun k i j => a2 (ix3 k i j))

end Cert.Loss

end
-- ==== Proof.Proper.lean ====
/- What the precondition `proper` says of the arguments: they are real numbers where the loss needs it, the subject numbers
   exist, and the factors' diagonals are positive. -/
module

public import proofs.«01_k».proof.Proof.Data
public import proofs.«01_k».proof.Proof.Words
public import proofs.«01_k».proof.Proof.Gen.Pre_proper
public import Idealize.ShloMosaic.Lib.ReduceAll
public import Idealize.ShloMosaic.Lib.Pointwise

@[expose] public section

set_option maxRecDepth 16384

namespace Cert.Proper

open Cert.Pre_proper Cert.Pre_proper.Gen Cert.Coe Cert.Words Cert.Loss Cert.RealMath
open Idealize.ShloMosaic

/-- A comparison that came out one is true. -/
theorem lt_of_olt {a b : EReal} (h : FloatOps.cmpf (F := Ideal) (φ := .f32) .olt a b = 1#1) : a < b := by
  have e : BitVec.ofBool (decide (a < b)) = 1#1 := h
  simpa [StableHlo.Predicate.ofBool_eq_one_iff] using e

/-- Likewise of the comparison the other way round. -/
theorem lt_of_ogt {a b : EReal} (h : FloatOps.cmpf (F := Ideal) (φ := .f32) .ogt a b = 1#1) : b < a := by
  have e : BitVec.ofBool (decide (b < a)) = 1#1 := h
  simpa [StableHlo.Predicate.ofBool_eq_one_iff] using e

/-- A number whose absolute value is below infinity is real. -/
theorem real_of_cmp {a : EReal} (h : FloatOps.cmpf (F := Ideal) (φ := .f32) .olt (max a (-a)) (Ideal.ofBits .f32 0x7F800000#32) = 1#1) :
    a = ((a.toReal : ℝ) : EReal) := by
  have e := lt_of_olt h
  rw [ofBits_top] at e
  exact real_of_abs_lt e

/-- There is one index of a scalar. -/
instance : Subsingleton S_.Idx := ⟨fun a b => funext fun i => i.elim0⟩

variable {a0 : FVec Ideal S16x512x32 .f32} {a1 : FVec Ideal S8x32 .f32} {a2 : FVec Ideal S8x32x32 .f32} {a3 : FVec Ideal S16x8x32 .f32}
  {a4 : FVec Ideal S16x8x32x32 .f32} {a5 : FVec Ideal S16x512x8 .f32} {a6 : IVec S16 32}

/-- The six conditions the precondition joins, element by element. -/
theorem parts (h : fn (F := Ideal) a0 a1 a2 a3 a4 a5 a6 = fun _ => 1#1) :
    (∀ i, (a6 i).toNat < 16) ∧ (∀ i, a0 i = (((a0 i : EReal).toReal : ℝ) : EReal)) ∧ (∀ i, a3 i = (((a3 i : EReal).toReal : ℝ) : EReal))
      ∧ (∀ i, a4 i = (((a4 i : EReal).toReal : ℝ) : EReal)) ∧ (∀ i, a5 i = (((a5 i : EReal).toReal : ℝ) : EReal))
      ∧ ∀ i, ori (cmpi .ne (iotaInDim S16x8x32x32 32 2) (iotaInDim S16x8x32x32 32 3))
          (cmpf .ogt a4 (broadcastInDim S16x8x32x32 ![] bcast_S_S16x8x32x32 (constant S_ .f32 0x00000000#32))) i = 1#1 := by
  have e := congrFun h ix0
  obtain ⟨e, e6⟩ := andi_eq_one e
  obtain ⟨e, e5⟩ := andi_eq_one e
  obtain ⟨e, e4⟩ := andi_eq_one e
  obtain ⟨e, e3⟩ := andi_eq_one e
  obtain ⟨e1, e2⟩ := andi_eq_one e
  refine ⟨fun i => ?_, fun i => ?_, fun i => ?_, fun i => ?_, fun i => ?_, fun i => ?_⟩
  · have w := Host.reduce_andi_all _ _ _ _ _ e1 i
    obtain ⟨w0, w1⟩ := andi_eq_one w
    exact lt_of_cmp w0 w1
  · exact real_of_cmp (Host.reduce_andi_all _ _ _ _ _ e2 i)
  · exact real_of_cmp (Host.reduce_andi_all _ _ _ _ _ e3 i)
  · exact real_of_cmp (Host.reduce_andi_all _ _ _ _ _ e4 i)
  · exact real_of_cmp (Host.reduce_andi_all _ _ _ _ _ e5 i)
  · exact Host.reduce_andi_all _ _ _ _ _ e6 i

/-- Every subject number is below sixteen. -/
theorem subjects (h : fn (F := Ideal) a0 a1 a2 a3 a4 a5 a6 = fun _ => 1#1) (i : S16.Idx) : (a6 i).toNat < 16 := (parts h).1 i

/-- So the arguments are the numbers of a mixture with proper factors. -/
theorem data (h : fn (F := Ideal) a0 a1 a2 a3 a4 a5 a6 = fun _ => 1#1) : ∃ s x μ L g, Data a0 a3 a4 a5 a6 s x μ L g := by
  obtain ⟨h6, h0, h3, h4, h5, hd⟩ := parts h
  refine ⟨fun b => ⟨(a6 (ix1 b)).toNat, h6 _⟩, fun b t d => (a0 (ix3 b t d) : EReal).toReal, fun p k e => (a3 (ix3 p k e) : EReal).toReal,
    fun p k i j => (a4 (ix4 p k i j) : EReal).toReal, fun b t k => (a5 (ix3 b t k) : EReal).toReal,
    { token := fun b t d => h0 _, mean := fun p k e => h3 _, factor := fun p k i j => h4 _, weight := fun b t k => h5 _,
      subject := fun b => ((BitVec.ofNat_toNat 32 _).trans (BitVec.setWidth_eq _)).symm, positive := fun p k i => ?_ }⟩
  · have hp := hd (ix4 p k i i)
    rcases ori_eq_one hp with hn | hg
    · have e : IntOp.cmpi .ne (BitVec.ofNat 32 i.val) (BitVec.ofNat 32 i.val) = 1#1 := hn
      simp [IntOp.cmpi] at e
    · have e := lt_of_ogt hg
      have z : (0 : EReal) < a4 (ix4 p k i i) := by
        refine lt_of_eq_of_lt ?_ e
        exact Ideal.ofBits_zero_f32.symm
      rw [h4] at z
      exact_mod_cast z

end Cert.Proper
-- ==== Proof.KernelPay.lean ====
/- The kernel's payloads at an index, over real operands. -/
module

public import proofs.«01_k».proof.Proof.Loss
public import proofs.«01_k».proof.Proof.Gen.KernelIdeal.Skeleton
public import Idealize.ShloMosaic.Lib.Pointwise

@[expose] public section

set_option maxRecDepth 16384

noncomputable section

namespace Cert.KernelPay

open Cert.KernelIdeal Cert.KernelIdeal.Gen Cert.RealMath Cert.Coe Cert.Loss
open Idealize.ShloMosaic Idealize.ShloMosaic.TcCoe Idealize.SL.Sem

/-- The ideal array of a family of 128 real matrices. -/
def toV (A : Fin 128 → M32) : FVec Ideal S128x32x32 .f32 := fun y => ((A (y 0) (y 1) (y 2) : ℝ) : EReal)

/-- An entry of it. -/
theorem toV_at (A : Fin 128 → M32) (q : Fin 128) (i j : Fin 32) : toV A (ix3 q i j) = ((A q i j : ℝ) : EReal) := rfl

/-- A product of the programs' kind: rows of the one by columns of the other, matrix by matrix. -/
def mm (a b : FVec Ideal S128x32x32 .f32) : FVec Ideal S128x32x32 .f32 :=
  matmul dot_S128x32x32_S128x32x32_S128x32x32_2_1_1_2_0_0 none a b (constant S128x32x32 .f32 0x00000000#32)

/-- It is the product of the matrices. -/
theorem mm_toV (A B : Fin 128 → M32) : mm (toV A) (toV B) = toV fun q => A q * B q := by
  funext y; idx_vars y
  pointwise [mm]
  simp only [toV_at, ← EReal.coe_mul, coe_sum, Matrix.mul_apply]

/-- The sum of two families. -/
theorem add_toV (A B : Fin 128 → M32) : addf (toV A) (toV B) = toV fun q => A q + B q := by
  funext y; idx_vars y
  pointwise
  simp only [toV_at, ← EReal.coe_add, Matrix.add_apply]

/-- The diagonals. -/
theorem pay4_toV (L : Fin 128 → M32) (q : Fin 128) (i : Fin 32) : k0_pay4 (F := Ideal) (toV L) (ix2 q i) = ((L q i i : ℝ) : EReal) := by
  pointwise [k0_pay4, k0_pay2, k0_pay3]
  simp only [mask_eq (show 32 ≤ 1024 by decide), toV_at, ← EReal.coe_mul, coe_sum]
  congr 1
  simp

/-- The reciprocals of the diagonals. -/
def recip (v0 : FVec Ideal S128x32x32 .f32) : FVec Ideal S128x32 .f32 :=
  divf (broadcast S128x32 (Scalar.ofBits .f32 0x3F800000#32 : Ideal .f32)) (k0_pay4 (F := Ideal) v0)

/-- Over real matrices without a zero on the diagonal. -/
theorem recip_toV (L : Fin 128 → M32) (hL : ∀ q i, L q i i ≠ 0) (q : Fin 128) (i : Fin 32) : recip (toV L) (ix2 q i) = (((L q i i)⁻¹ : ℝ) : EReal) := by
  pointwise [recip]
  rw [pay4_toV]

  have := div_real (a := 1) (hL q i)
  simpa using this

/-- The scaled strict lower triangles. -/
def scaledV (v0 : FVec Ideal S128x32x32 .f32) : FVec Ideal S128x32x32 .f32 :=
  mulf (subf (broadcast S128x32x32 (Scalar.ofBits .f32 0x00000000#32 : Ideal .f32)) (mulf (k0_pay2 (F := Ideal) v0)
      (broadcastTo S128x32x32 (shapeCast S1x32x32 (sitofp .f32 (extui 32 (cmpi .sgt (iota .tc S32x32 32 [0] iota_S32x32_d0_w32) (iota .tc S32x32 32 [1] iota_S32x32_d1_w32)) natLt_1_32) : FVec Ideal S32x32 .f32)
        shapeCasts_S32x32_S1x32x32) broadcasts_S1x32x32_S128x32x32)))
    (broadcastTo S128x32x32 (shapeCast S128x32x1 (recip v0) shapeCasts_S128x32_S128x32x1) broadcasts_S128x32x1_S128x32x32)

/-- Over real matrices. -/
theorem scaledV_toV (L : Fin 128 → M32) (hL : ∀ q i, L q i i ≠ 0) : scaledV (toV L) = toV fun q => scaled (L q) := by
  funext y; idx_vars y
  pointwise [scaledV, k0_pay2]
  rw [recip_toV L hL, toV_at, toV_at, mask_gt (by decide)]
  rw [← EReal.coe_zero, ← EReal.coe_mul, ← EReal.coe_sub, ← EReal.coe_mul]
  congr 1
  unfold scaled strict
  split_ifs <;> ring

/-- The identity and the scaled triangles, added. -/
def firstV (v0 : FVec Ideal S128x32x32 .f32) : FVec Ideal S128x32x32 .f32 :=
  addf (broadcastTo S128x32x32 (shapeCast S1x32x32 (k0_pay3 (F := Ideal)) shapeCasts_S32x32_S1x32x32) broadcasts_S1x32x32_S128x32x32) (scaledV v0)

/-- Over real matrices. -/
theorem firstV_toV (L : Fin 128 → M32) (hL : ∀ q i, L q i i ≠ 0) : firstV (toV L) = toV fun q => 1 + scaled (L q) := by
  unfold firstV
  rw [scaledV_toV L hL]
  funext y; idx_vars y
  pointwise [k0_pay3]
  rw [mask_eq (by decide), toV_at, toV_at, ← EReal.coe_add]
  rfl

/-- A matrix with each column divided by the diagonal entry of another. -/
def byColumns (L X : M32) : M32 := fun i j => X i j * (L j j)⁻¹

/-- Each column times the reciprocal of its diagonal entry. -/
def columnsV (v0 x : FVec Ideal S128x32x32 .f32) : FVec Ideal S128x32x32 .f32 :=
  mulf x (broadcastTo S128x32x32 (shapeCast S128x1x32 (recip v0) shapeCasts_S128x32_S128x1x32) broadcasts_S128x1x32_S128x32x32)

/-- Over real matrices. -/
theorem columnsV_toV (L X : Fin 128 → M32) (hL : ∀ q i, L q i i ≠ 0) :
    columnsV (toV L) (toV X) = toV fun q => byColumns (L q) (X q) := by
  funext y; idx_vars y
  pointwise [columnsV]
  rw [recip_toV L hL, toV_at, toV_at, ← EReal.coe_mul]
  rfl

/-- The products of the columns of a family's matrices with each other. -/
def gramV (x : FVec Ideal S128x32x32 .f32) : FVec Ideal S128x32x32 .f32 :=
  matmul dot_S128x32x32_S128x32x32_S128x32x32_1_1_2_2_0_0 none x x (constant S128x32x32 .f32 0x00000000#32)

/-- Over real matrices. -/
theorem gramV_toV (A : Fin 128 → M32) : gramV (toV A) = toV fun q => (A q).transpose * A q := by
  funext y; idx_vars y
  pointwise [gramV]
  simp only [toV_at, ← EReal.coe_mul, coe_sum, Matrix.mul_apply, Matrix.transpose_apply]

/-- The matrices of the quadratic forms, step by step. -/
theorem pay5_steps (v0 : FVec Ideal S128x32x32 .f32) : k0_pay5 (F := Ideal) v0 =
    (let N := scaledV v0
     let N2 := mm N N
     let N4 := mm N2 N2
     let N8 := mm N4 N4
     let N16 := mm N8 N8
     let X0 := firstV v0
     let X1 := addf X0 (mm X0 N2)
     let X2 := addf X1 (mm X1 N4)
     let X3 := addf X2 (mm X2 N8)
     gramV (columnsV v0 (addf X3 (mm X3 N16)))) := rfl

/-- The matrices of the quadratic forms: the inverse triangles' columns by each other. -/
theorem pay5_toV (L : Fin 128 → M32) (hL : ∀ q i, L q i i ≠ 0) :
    k0_pay5 (F := Ideal) (toV L) = toV fun q => (productInverse (L q)).transpose * productInverse (L q) := by
  rw [pay5_steps]
  simp only [scaledV_toV L hL, firstV_toV L hL, mm_toV, add_toV]
  exact (congrArg gramV (columnsV_toV L _ hL)).trans (gramV_toV _)

/-- The ideal array of a family of 128 real vectors. -/
def toW (μ : Fin 128 → Fin 32 → ℝ) : FVec Ideal S128x32 .f32 := fun y => ((μ (y 0) (y 1) : ℝ) : EReal)

/-- An entry of it. -/
theorem toW_at (μ : Fin 128 → Fin 32 → ℝ) (q : Fin 128) (i : Fin 32) : toW μ (ix2 q i) = ((μ q i : ℝ) : EReal) := rfl

/-- The top left piece of the bordered matrices. -/
theorem pay8_at (A : Fin 128 → M32) (q : Fin 128) (i j : Fin 32) : k0_pay8 (F := Ideal) (toV A) (ix3 q i j) = ((A q i j : ℝ) : EReal) := by
  pointwise [k0_pay8]
  rw [toV_at]

/-- The bottom left piece. -/
theorem pay9_at (A : Fin 128 → M32) (μ : Fin 128 → Fin 32 → ℝ) (q : Fin 128) (i : Fin 32) (u : Fin 1) :
    k0_pay9 (F := Ideal) (toV A) (toW μ) (ix3 q u i) = ((-applied (A q) (μ q) i : ℝ) : EReal) := by
  pointwise [k0_pay9, k0_pay7, k0_pay6]
  simp only [toV_at, toW_at, ← EReal.coe_mul, coe_sum]
  rw [← EReal.coe_zero, ← EReal.coe_sub, zero_sub]
  rfl

/-- The top right piece. -/
theorem pay10_at (A : Fin 128 → M32) (μ : Fin 128 → Fin 32 → ℝ) (q : Fin 128) (i : Fin 32) (u : Fin 1) :
    k0_pay10 (F := Ideal) (toV A) (toW μ) (ix3 q i u) = ((-applied (A q) (μ q) i : ℝ) : EReal) := by
  pointwise [k0_pay10, k0_pay7, k0_pay6]
  simp only [toV_at, toW_at, ← EReal.coe_mul, coe_sum]
  rw [← EReal.coe_zero, ← EReal.coe_sub, zero_sub]
  rfl

/-- The bottom right entry. -/
theorem pay11_at (L A : Fin 128 → M32) (μ : Fin 128 → Fin 32 → ℝ) (hL : ∀ q i, 0 < L q i i) (q : Fin 128) (u w : Fin 1) :
    k0_pay11 (F := Ideal) (k0_pay4 (F := Ideal) (toV L)) (toV A) (toW μ) (ix3 q u w)
      = ((∑ i, μ q i * applied (A q) (μ q) i - 2 * (logConst - ∑ i, Real.log (L q i i)) : ℝ) : EReal) := by
  pointwise [k0_pay11, k0_pay7, k0_pay6]
  simp only [pay4_toV, toV_at, toW_at, log_real (hL _ _), ofBits_logConst, ofBits_two, ← EReal.coe_mul, coe_sum, ← EReal.coe_sub]
  rfl

/-- The weighted second moments of a block: over its tokens, the weight times the product of two rows. -/
def moments (v : FVec Ideal S1x41x512 .f32) : FVec Ideal S8x33x33 .f32 := fun y =>
  ∑ t : Fin 512, v (ix3 0 ⟨33 + (y 0).val, by have := (y 0).isLt; simp at this; omega⟩ t)
    * v (ix3 0 ⟨(y 1).val, by have := (y 1).isLt; simp at this; omega⟩ t) * v (ix3 0 ⟨(y 2).val, by have := (y 2).isLt; simp at this; omega⟩ t)

/-- Block 0's. -/
theorem moment0 (v : FVec Ideal S1x41x512 .f32) : k0_pay12 (F := Ideal) v = moments v := by
  funext y; idx_vars y
  pointwise [moments, k0_pay12]

/-- Block 1's. -/
theorem moment1 (v : FVec Ideal S1x41x512 .f32) : k0_pay13 (F := Ideal) v = moments v := by
  funext y; idx_vars y
  pointwise [moments, k0_pay13]

/-- Block 2's. -/
theorem moment2 (v : FVec Ideal S1x41x512 .f32) : k0_pay18 (F := Ideal) (k0_pay15 v) (k0_pay16 v) (k0_pay17 v) = moments v := by
  funext y; idx_vars y
  pointwise [moments, k0_pay14, k0_pay15, k0_pay16, k0_pay17, k0_pay18]

/-- Block 3's. -/
theorem moment3 (v : FVec Ideal S1x41x512 .f32) : k0_pay19 (F := Ideal) v = moments v := by
  funext y; idx_vars y
  pointwise [moments, k0_pay19]

/-- Block 4's. -/
theorem moment4 (v : FVec Ideal S1x41x512 .f32) : k0_pay20 (F := Ideal) v = moments v := by
  funext y; idx_vars y
  pointwise [moments, k0_pay20]

/-- Block 5's. -/
theorem moment5 (v : FVec Ideal S1x41x512 .f32) : k0_pay21 (F := Ideal) v = moments v := by
  funext y; idx_vars y
  pointwise [moments, k0_pay21]

/-- Block 6's. -/
theorem moment6 (v : FVec Ideal S1x41x512 .f32) : k0_pay22 (F := Ideal) v = moments v := by
  funext y; idx_vars y
  pointwise [moments, k0_pay22]

/-- Block 7's. -/
theorem moment7 (v : FVec Ideal S1x41x512 .f32) : k0_pay27 (F := Ideal) (k0_pay24 v) (k0_pay25 v) (k0_pay26 v) = moments v := by
  funext y; idx_vars y
  pointwise [moments, k0_pay23, k0_pay24, k0_pay25, k0_pay26, k0_pay27]

/-- Block 8's. -/
theorem moment8 (v : FVec Ideal S1x41x512 .f32) : k0_pay28 (F := Ideal) v = moments v := by
  funext y; idx_vars y
  pointwise [moments, k0_pay28]

/-- Block 9's. -/
theorem moment9 (v : FVec Ideal S1x41x512 .f32) : k0_pay29 (F := Ideal) v = moments v := by
  funext y; idx_vars y
  pointwise [moments, k0_pay29]

/-- Block 10's. -/
theorem moment10 (v : FVec Ideal S1x41x512 .f32) : k0_pay30 (F := Ideal) v = moments v := by
  funext y; idx_vars y
  pointwise [moments, k0_pay30]

/-- Block 11's. -/
theorem moment11 (v : FVec Ideal S1x41x512 .f32) : k0_pay31 (F := Ideal) v = moments v := by
  funext y; idx_vars y
  pointwise [moments, k0_pay31]

/-- Block 12's. -/
theorem moment12 (v : FVec Ideal S1x41x512 .f32) : k0_pay36 (F := Ideal) (k0_pay33 v) (k0_pay34 v) (k0_pay35 v) = moments v := by
  funext y; idx_vars y
  pointwise [moments, k0_pay32, k0_pay33, k0_pay34, k0_pay35, k0_pay36]

/-- Block 13's. -/
theorem moment13 (v : FVec Ideal S1x41x512 .f32) : k0_pay37 (F := Ideal) v = moments v := by
  funext y; idx_vars y
  pointwise [moments, k0_pay37]

/-- Block 14's. -/
theorem moment14 (v : FVec Ideal S1x41x512 .f32) : k0_pay38 (F := Ideal) v = moments v := by
  funext y; idx_vars y
  pointwise [moments, k0_pay38]

/-- Block 15's. -/
theorem moment15 (v : FVec Ideal S1x41x512 .f32) : k0_pay39 (F := Ideal) v = moments v := by
  funext y; idx_vars y
  pointwise [moments, k0_pay39]

/-- Two entries of a family's arrays at equal coordinates. -/
theorem entry_congr (a : Fin 16 → FVec Ideal S8x33x33 .f32) {b b' : Fin 16} {k k' : Fin 8} (hb : b = b') (hk : (k : ℕ) = k') (i j : Fin 33) :
    a b (ix3 k i j) = a b' (ix3 k' i j) := by
  subst hb; rw [Fin.ext hk]

/-- Sixteen arrays of eight rows, stacked. -/
theorem stacked (a : Fin 16 → FVec Ideal S8x33x33 .f32) (q : Fin 128) (i j : Fin 33) :
    concatenate (α := Ideal .f32) S128x33x33 0 [⟨S8x33x33, a 0⟩, ⟨S8x33x33, a 1⟩, ⟨S8x33x33, a 2⟩, ⟨S8x33x33, a 3⟩, ⟨S8x33x33, a 4⟩, ⟨S8x33x33, a 5⟩,
        ⟨S8x33x33, a 6⟩, ⟨S8x33x33, a 7⟩, ⟨S8x33x33, a 8⟩, ⟨S8x33x33, a 9⟩, ⟨S8x33x33, a 10⟩, ⟨S8x33x33, a 11⟩,
        ⟨S8x33x33, a 12⟩, ⟨S8x33x33, a 13⟩, ⟨S8x33x33, a 14⟩, ⟨S8x33x33, a 15⟩]
      concatenates_S8x33x33_S8x33x33_S8x33x33_S8x33x33_S8x33x33_S8x33x33_S8x33x33_S8x33x33_S8x33x33_S8x33x33_S8x33x33_S8x33x33_S8x33x33_S8x33x33_S8x33x33_S8x33x33_S128x33x33_d0 (ix3 q i j)
      = a ⟨q.val / 8, by omega⟩ (ix3 ⟨q.val % 8, by omega⟩ i j) := by
  refine concatenate_ofFn_apply (t := S128x33x33) (s₁ := S8x33x33) (0 : Fin 3) a _ rfl 8 rfl (ix3 q i j) ⟨q.val / 8, by omega⟩ rfl
    (ix3 ⟨q.val % 8, by omega⟩ i j) rfl fun b hb => ?_
  fin_vals b with h
  · exact absurd (Fin.ext h) hb
  · obtain rfl : b = (1 : Fin 3) := Fin.ext h
    rfl
  · obtain rfl : b = (2 : Fin 3) := Fin.ext h
    rfl

/-- The sum of all entries of an array of 128 matrices. -/
theorem total (X : FVec Ideal S128x33x33 .f32) :
    extractAt (α := Ideal .f32) ![0, 0, 0, 0] (shapeCast S1x1x1x1 (multiReduction .add [1, 2, 3] S1 (shapeCast S1x128x33x33 X shapeCasts_S128x33x33_S1x128x33x33)
        0x00000000#32 reduces_S1x128x33x33_S1 (.inl rfl) rfl) shapeCasts_S1_S1x1x1x1) inpos_S1x1x1x1_p0_0_0_0 = ∑ q : Fin 128, ∑ i : Fin 33, ∑ j : Fin 33, X (ix3 q i j) := by
  pointwise
  rw [Ideal.reduceAdd_total _ (by decide), sum_idx4]
  pointwise
  simp

/-- The stacked arrays times another, summed. -/
theorem pay40_at (a : Fin 16 → FVec Ideal S8x33x33 .f32) (s : FVec Ideal S128x33x33 .f32) :
    k0_pay40 (F := Ideal) (a 0) (a 1) (a 2) (a 3) (a 4) (a 5) (a 6) (a 7) (a 8) (a 9) (a 10) (a 11) (a 12) (a 13) (a 14) (a 15) s
      = ∑ b : Fin 16, ∑ k : Fin 8, ∑ i : Fin 33, ∑ j : Fin 33, a b (ix3 k i j) * s (ix3 ⟨8 * b.val + k.val, by omega⟩ i j) := by
  refine (total _).trans ((sum_pairs _).trans ?_)
  refine Finset.sum_congr rfl fun b _ => Finset.sum_congr rfl fun k _ => Finset.sum_congr rfl fun i _ => Finset.sum_congr rfl fun j _ => ?_
  refine congrArg₂ (· * ·) ((stacked a _ i j).trans (entry_congr a (Fin.ext ?_) ?_ i j)) rfl
  · simp only; omega
  · simp only; omega

/-- Half of a real number over the number of tokens. -/
theorem pay41_real (x : ℝ) : k0_pay41 (F := Ideal) (x : EReal) = ((2⁻¹ * x * 8192⁻¹ : ℝ) : EReal) := by
  pointwise [k0_pay41]
  rw [ofBits_half, ofBits_8192, ← EReal.coe_mul, div_real (by norm_num)]

/-- The greatest of a subject's masks says whether it is present. -/
theorem greatest (s : Fin 16 → Fin 16) (v : IVec S1x16 32) (hv : ∀ b, v (ix2 0 b) = BitVec.ofNat 32 (s b).val) (p : Fin 16) :
    Finset.fold max (Ideal.ofBits .f32 4286578688#32) (fun b : Fin 16 => (FloatOps.sitofp .f32 (BitVec.setWidth 32
        (IntOp.cmpi .eq (BitVec.ofNat 32 p.val) (v (ix2 0 b)))) : Ideal .f32)) Finset.univ = presence s p := by
  rw [ofBits_bot]
  simp only [hv, mask_eq (show 16 ≤ 1024 by decide)]
  exact fold_max (by decide) _

/-- The number of subjects present. -/
theorem pay43_at (s : Fin 16 → Fin 16) (v : IVec S1x16 32) (hv : ∀ b, v (ix2 0 b) = BitVec.ofNat 32 (s b).val) :
    k0_pay43 (F := Ideal) v = ∑ p, presence s p := by
  pointwise [k0_pay43, k0_pay42]
  simp only [greatest s v hv]
  simp

/-- The means' part of the regulariser. -/
theorem pay44_at (s : Fin 16 → Fin 16) (v : IVec S1x16 32) (hv : ∀ b, v (ix2 0 b) = BitVec.ofNat 32 (s b).val) (μ : FVec Ideal S128x32 .f32)
    (w : FVec Ideal S8x32 .f32) :
    k0_pay44 (F := Ideal) μ v w = means s (fun p k e => μ (ix2 ⟨p.val * 8 + k.val, by omega⟩ e)) (fun k e => w (ix2 k e)) := by
  pointwise [k0_pay44, k0_pay42]
  simp only [greatest s v hv]
  simp [means]

/-- The factors' part of the regulariser. -/
theorem pay45_at (s : Fin 16 → Fin 16) (v : IVec S1x16 32) (hv : ∀ b, v (ix2 0 b) = BitVec.ofNat 32 (s b).val) (L : FVec Ideal S128x32x32 .f32)
    (w : FVec Ideal S8x32x32 .f32) :
    k0_pay45 (F := Ideal) L v w (ix1 0) = factors s (fun p k i j => L (ix3 ⟨p.val * 8 + k.val, by omega⟩ i j)) (fun k i j => w (ix3 k i j)) := by
  pointwise [k0_pay45, k0_pay42]
  simp only [greatest s v hv]
  simp [factors]

/-- The kernel's last sum. -/
theorem pay1_at (a b c : Ideal .f32) (w : FVec Ideal S1 .f32) :
    k0_pay1 (F := Ideal) a b c w = a + Ideal.div b ((16 : ℝ) : EReal) * (((weight : ℝ) : EReal) * c + ((weight : ℝ) : EReal) * w (ix1 0)) := by
  pointwise [k0_pay1]
  rw [ofBits_16, ofBits_weight]

end Cert.KernelPay

end
-- ==== Proof.KernelOperands.lean ====
/- What the kernel's region reads: its operands in terms of the program's arguments. -/
module

public import proofs.«01_k».proof.Proof.Words
public import proofs.«01_k».proof.Proof.KernelPay
public import Idealize.ShloMosaic.Lib.Pointwise
public import Idealize.ShloMosaic.Lib.Pipeline.ValueKit
public import Idealize.ShloMosaic.Lib.Claim

@[expose] public section

set_option maxRecDepth 16384

noncomputable section

namespace Cert.KernelOperands

open Cert.KernelIdeal Cert.KernelIdeal.Gen
open Idealize.ShloMosaic Idealize.ShloMosaic.TcCoe Idealize.SL.Sem

variable (m : (ℓ : Loc nD τ sig) → Buf (Elt Ideal) ℓ)

/-- Every window is at the origin. -/
theorem idx : ∀ t : Fin cfg0.N, win0_0.index t = ![0] ∧ win0_1.index t = ![0, 0] ∧ win0_2.index t = ![0, 0] ∧ win0_3.index t = ![0, 0]
    ∧ win0_4.index t = ![0, 0, 0] ∧ win0_5.index t = ![0, 0, 0] ∧ win0_6.index t = ![0, 0] :=
  (by decide +kernel : ∀ t : Fin grid0.N, _)

/-- The tokens' rows: the program joins tokens, ones and weights and swaps the last two axes. -/
theorem V_main_v2 (c : Dev nD) : V m c main_v2 = transpose S16x41x512 [0, 2, 1] (concatenate (α := Ideal .f32) S16x512x41 2
      [⟨S16x512x32, m ((c : Thread nD τ).loc main_arg0)⟩, ⟨S16x512x1, broadcastInDim S16x512x1 ![] bcast_S_S16x512x1 (constant (F := Ideal) S_ .f32 0x3F800000#32)⟩,
        ⟨S16x512x8, m ((c : Thread nD τ).loc main_arg5)⟩] concatenates_S16x512x32_S16x512x1_S16x512x8_S16x512x41_d2)
      transposes_S16x512x41_S16x41x512_0_2_1 := by
  unfold V; after_results; try rfl

/-- The factors, subject by subject. -/
theorem V_main_v3 (c : Dev nD) : V m c main_v3 = shapeCast (α := Ideal .f32) S128x32x32 (m ((c : Thread nD τ).loc main_arg4)) shapeCasts_S16x8x32x32_S128x32x32 := by
  entry_read; try rfl

/-- The means, subject by subject. -/
theorem V_main_v4 (c : Dev nD) : V m c main_v4 = shapeCast (α := Ideal .f32) S128x32 (m ((c : Thread nD τ).loc main_arg3)) shapeCasts_S16x8x32_S128x32 := by
  entry_read; try rfl

/-- The subjects in a row. -/
theorem V_main_v5 (c : Dev nD) : V m c main_v5 = shapeCast (α := BitVec 32) S1x16 (m ((c : Thread nD τ).loc main_arg6)) shapeCasts_S16_S1x16 := by
  entry_read; try rfl

/-- Joining the subject and head axes of an array of rank three. -/
theorem joined2 (a : FVec Ideal S16x8x32 .f32) (q : Fin 128) (e : Fin 32) :
    shapeCast (α := Ideal .f32) S128x32 a shapeCasts_S16x8x32_S128x32 (ix2 q e) = a (ix3 ⟨q.val / 8, by omega⟩ ⟨q.val % 8, by omega⟩ e) := by
  pointwise
  try rfl

/-- Joining the subject and head axes of an array of rank four. -/
theorem joined3 (a : FVec Ideal S16x8x32x32 .f32) (q : Fin 128) (i j : Fin 32) :
    shapeCast (α := Ideal .f32) S128x32x32 a shapeCasts_S16x8x32x32_S128x32x32 (ix3 q i j)
      = a (ix4 ⟨q.val / 8, by omega⟩ ⟨q.val % 8, by omega⟩ i j) := by
  pointwise
  try rfl

/-- The subject of a block. -/
theorem in0 (c : Dev nD) (b : Fin 16) : (iblk m c 0 t0_0 : IVec S16 32) (ix1 b) = m ((c : Thread nD τ).loc main_arg6) (ix1 b) := by
  refine Eq.trans (b := V m c main_arg6 (ix1 b)) ?_ (by rw [V_main_arg6])
  blk_ext! [iblk, idx t0_0]

/-- The subject of a block, in the second window. -/
theorem in1 (c : Dev nD) (b : Fin 16) : (iblk m c 1 t0_0 : IVec S1x16 32) (ix2 0 b) = m ((c : Thread nD τ).loc main_arg6) (ix1 b) := by
  refine Eq.trans (b := V m c main_v5 (ix2 0 b)) ?_ ?_
  · blk_ext! [iblk, idx t0_0]
  · rw [V_main_v5]
    pointwise
    try rfl

/-- A subject's mean. -/
theorem in2 (c : Dev nD) (q : Fin 128) (e : Fin 32) :
    (iblk m c 2 t0_0 : FVec Ideal S128x32 .f32) (ix2 q e) = m ((c : Thread nD τ).loc main_arg3) (ix3 ⟨q.val / 8, by omega⟩ ⟨q.val % 8, by omega⟩ e) := by
  refine Eq.trans (b := V m c main_v4 (ix2 q e)) ?_ ?_
  · blk_ext! [iblk, idx t0_0]
  · rw [V_main_v4]
    exact joined2 _ q e

/-- A population's mean. -/
theorem in3 (c : Dev nD) (k : Fin 8) (e : Fin 32) :
    (iblk m c 3 t0_0 : FVec Ideal S8x32 .f32) (ix2 k e) = m ((c : Thread nD τ).loc main_arg1) (ix2 k e) := by
  refine Eq.trans (b := V m c main_arg1 (ix2 k e)) ?_ (by rw [V_main_arg1])
  blk_ext! [iblk, idx t0_0]

/-- A subject's factor. -/
theorem in4 (c : Dev nD) (q : Fin 128) (i j : Fin 32) :
    (iblk m c 4 t0_0 : FVec Ideal S128x32x32 .f32) (ix3 q i j)
      = m ((c : Thread nD τ).loc main_arg4) (ix4 ⟨q.val / 8, by omega⟩ ⟨q.val % 8, by omega⟩ i j) := by
  refine Eq.trans (b := V m c main_v3 (ix3 q i j)) ?_ ?_
  · blk_ext! [iblk, idx t0_0]
  · rw [V_main_v3]
    exact joined3 _ q i j

/-- A population's factor. -/
theorem in5 (c : Dev nD) (k : Fin 8) (i j : Fin 32) :
    (iblk m c 5 t0_0 : FVec Ideal S8x32x32 .f32) (ix3 k i j) = m ((c : Thread nD τ).loc main_arg2) (ix3 k i j) := by
  refine Eq.trans (b := V m c main_arg2 (ix3 k i j)) ?_ (by rw [V_main_arg2])
  blk_ext! [iblk, idx t0_0]

/-- A token's row: its 32 entries and a one. -/
theorem token (c : Dev nD) (b : Fin 16) (i : Fin 33) (t : Fin 512) :
    (V m c main_v2 : FVec Ideal S16x41x512 .f32) (ix3 b ⟨i.val, by omega⟩ t)
      = if h : i.val < 32 then (m ((c : Thread nD τ).loc main_arg0) (ix3 b t ⟨i.val, h⟩) : Ideal .f32) else (1 : EReal) := by
  rw [V_main_v2]
  pointwise
  split_ifs <;> first | rfl | omega

/-- A token's weights. -/
theorem tokenWeight (c : Dev nD) (b : Fin 16) (k : Fin 8) (t : Fin 512) :
    (V m c main_v2 : FVec Ideal S16x41x512 .f32) (ix3 b ⟨33 + k.val, by omega⟩ t) = m ((c : Thread nD τ).loc main_arg5) (ix3 b t k) := by
  rw [V_main_v2]
  pointwise
  rw [dif_neg (by omega), dif_neg (by omega)]
  congr 2
  exact Fin.ext (by show 33 + k.val - 32 - 1 = k.val; omega)

end Cert.KernelOperands

end
-- ==== Proof.KernelRead.lean ====
/- How the kernel's region reads back what it stored: the bordered matrices, the second moments, the tokens. -/
module

public import proofs.«01_k».proof.Proof.KernelOperands
public import Idealize.ShloMosaic.Lib.Pipeline.ReadBack

@[expose] public section

set_option maxRecDepth 16384

noncomputable section

namespace Cert.KernelRead

open Cert.KernelIdeal Cert.KernelIdeal.Gen Cert.KernelPay Cert.RealMath Cert.Loss Cert.Coe
open Idealize.ShloMosaic Idealize.ShloMosaic.TcCoe Idealize.SL.Sem

/-- The four stores of the bordered matrices, the last one first. -/
def borderStores (d : FVec Ideal S128x32 .f32) (A : FVec Ideal S128x32x32 .f32) (w : FVec Ideal S128x32 .f32) :
    List (View.Piece (Elt Ideal) S128x33x33 .f32) :=
  [⟨Rect.unit (s := S128x33x33) ![0, 32, 32] ![128, 1, 1] inb_S128x33x33_S128x1x1_0_32_32, k0_pay11 (F := Ideal) d A w⟩,
   ⟨Rect.unit (s := S128x33x33) ![0, 0, 32] ![128, 32, 1] inb_S128x33x33_S128x32x1_0_0_32, k0_pay10 (F := Ideal) A w⟩,
   ⟨Rect.unit (s := S128x33x33) ![0, 32, 0] ![128, 1, 32] inb_S128x33x33_S128x1x32_0_32_0, k0_pay9 (F := Ideal) A w⟩,
   ⟨Rect.unit (s := S128x33x33) ![0, 0, 0] ![128, 32, 32] inb_S128x33x33_S128x32x32_0_0_0, k0_pay8 (F := Ideal) A⟩]

/-- The bordered matrices. -/
def borders (L A : Fin 128 → M32) (μ : Fin 128 → Fin 32 → ℝ) : FVec Ideal S128x33x33 .f32 := fun y =>
  ((border (A (y 0)) (μ (y 0)) (constantPart (L (y 0))) (y 1) (y 2) : ℝ) : EReal)

/-- An array of rank three at the place of an entry of a box. -/
theorem at_emb {d0 d1 d2 o0 o1 o2 n0 n1 n2 : ℕ} (G : FVec Ideal ⟨3, ![d0, d1, d2]⟩ .f32)
    (h : ∀ a : Fin 3, (![o0, o1, o2] : Fin 3 → ℕ) a + (![n0, n1, n2] : Fin 3 → ℕ) a ≤ (![d0, d1, d2] : Fin 3 → ℕ) a)
    (a : Fin n0) (b : Fin n1) (c : Fin n2) (i : Fin d0) (j : Fin d1) (k : Fin d2) (hi : i.val = o0 + a.val) (hj : j.val = o1 + b.val) (hk : k.val = o2 + c.val) :
    G ((Rect.unit (s := ⟨3, ![d0, d1, d2]⟩) ![o0, o1, o2] ![n0, n1, n2] h).idx (ix3 a b c)) = G (ix3 i j k) :=
  congrArg G (funext fun
    | 0 => Fin.ext ((Rect.idx_unit_val (s := ⟨3, ![d0, d1, d2]⟩) ![o0, o1, o2] ![n0, n1, n2] h (ix3 a b c) (0 : Fin 3)).trans hi.symm)
    | 1 => Fin.ext ((Rect.idx_unit_val (s := ⟨3, ![d0, d1, d2]⟩) ![o0, o1, o2] ![n0, n1, n2] h (ix3 a b c) (1 : Fin 3)).trans hj.symm)
    | 2 => Fin.ext ((Rect.idx_unit_val (s := ⟨3, ![d0, d1, d2]⟩) ![o0, o1, o2] ![n0, n1, n2] h (ix3 a b c) (2 : Fin 3)).trans hk.symm))

/-- An entry of the bordered matrices. -/
theorem borders_at (L A : Fin 128 → M32) (μ : Fin 128 → Fin 32 → ℝ) (q : Fin 128) (i j : Fin 33) :
    borders L A μ (ix3 q i j) = ((border (A q) (μ q) (constantPart (L q)) i j : ℝ) : EReal) := rfl

/-- The stores make up the bordered matrices. -/
theorem canon_borderStores (L A : Fin 128 → M32) (μ : Fin 128 → Fin 32 → ℝ) (hL : ∀ q i, 0 < L q i i) :
    View.canon (borderStores (k0_pay4 (F := Ideal) (toV L)) (toV A) (toW μ)) = borders L A μ := by
  funext y
  have h := View.canon_append_of_piecesOf (borders L A μ) [] (borderStores (k0_pay4 (F := Ideal) (toV L)) (toV A) (toW μ))
    ⟨fun x => ?_, fun x => ?_, fun x => ?_, fun x => ?_, trivial⟩ y ?_
  · rwa [List.append_nil] at h
  · obtain ⟨q, u, w, rfl⟩ : ∃ q u w, x = ix3 q u w := ⟨_, _, _, eq_ix3 x⟩
    refine (pay11_at L A μ hL q u w).trans (Eq.trans ?_ (at_emb (borders L A μ) inb_S128x33x33_S128x1x1_0_32_32 q u w q 32 32
      (by omega) (by show 32 = _; omega) (by show 32 = _; omega)).symm)
    rw [borders_at, border, dif_neg (by decide), dif_neg (by decide), constantPart]
  · obtain ⟨q, u, w, rfl⟩ : ∃ q u w, x = ix3 q u w := ⟨_, _, _, eq_ix3 x⟩
    refine (pay10_at A μ q u w).trans (Eq.trans ?_ (at_emb (borders L A μ) inb_S128x33x33_S128x32x1_0_0_32 q u w q ⟨u.val, by omega⟩ 32
      (by omega) (by show u.val = _; omega) (by show 32 = _; omega)).symm)
    rw [borders_at, border, dif_pos u.isLt, dif_neg (by decide)]
  · obtain ⟨q, u, w, rfl⟩ : ∃ q u w, x = ix3 q u w := ⟨_, _, _, eq_ix3 x⟩
    refine (pay9_at A μ q w u).trans (Eq.trans ?_ (at_emb (borders L A μ) inb_S128x33x33_S128x1x32_0_32_0 q u w q 32 ⟨w.val, by omega⟩
      (by omega) (by show 32 = _; omega) (by show w.val = _; omega)).symm)
    rw [borders_at, border, dif_neg (by decide), dif_pos w.isLt]
  · obtain ⟨q, u, w, rfl⟩ : ∃ q u w, x = ix3 q u w := ⟨_, _, _, eq_ix3 x⟩
    refine (pay8_at A q u w).trans (Eq.trans ?_ (at_emb (borders L A μ) inb_S128x33x33_S128x32x32_0_0_0 q u w q ⟨u.val, by omega⟩ ⟨w.val, by omega⟩
      (by omega) (by show u.val = _; omega) (by show w.val = _; omega)).symm)
    rw [borders_at, border, dif_pos u.isLt, dif_pos w.isLt]
  · obtain ⟨q, i, j, rfl⟩ : ∃ q i j, y = ix3 q i j := ⟨_, _, _, eq_ix3 y⟩
    simp only [borderStores, List.mem_cons, List.not_mem_nil, or_false, exists_eq_or_imp, exists_eq_left, Rect.mem_set_unit]
    have hq := q.isLt
    have hi := i.isLt
    have hj := j.isLt
    by_cases h1 : i.val < 32 <;> by_cases h2 : j.val < 32
    · exact Or.inr (Or.inr (Or.inr fun
        | 0 => (⟨by omega, by omega⟩ : 0 ≤ q.val ∧ q.val < 0 + 128) | 1 => (⟨by omega, by omega⟩ : 0 ≤ i.val ∧ i.val < 0 + 32)
        | 2 => (⟨by omega, by omega⟩ : 0 ≤ j.val ∧ j.val < 0 + 32)))
    · exact Or.inr (Or.inl fun
        | 0 => (⟨by omega, by omega⟩ : 0 ≤ q.val ∧ q.val < 0 + 128) | 1 => (⟨by omega, by omega⟩ : 0 ≤ i.val ∧ i.val < 0 + 32)
        | 2 => (⟨by omega, by omega⟩ : 32 ≤ j.val ∧ j.val < 32 + 1))
    · exact Or.inr (Or.inr (Or.inl fun
        | 0 => (⟨by omega, by omega⟩ : 0 ≤ q.val ∧ q.val < 0 + 128) | 1 => (⟨by omega, by omega⟩ : 32 ≤ i.val ∧ i.val < 32 + 1)
        | 2 => (⟨by omega, by omega⟩ : 0 ≤ j.val ∧ j.val < 0 + 32)))
    · exact Or.inl fun
        | 0 => (⟨by omega, by omega⟩ : 0 ≤ q.val ∧ q.val < 0 + 128) | 1 => (⟨by omega, by omega⟩ : 32 ≤ i.val ∧ i.val < 32 + 1)
        | 2 => (⟨by omega, by omega⟩ : 32 ≤ j.val ∧ j.val < 32 + 1)

/-- A subject's rows of an array. -/
theorem ld_subject (G : FVec Ideal S128x33x33 .f32) (off : Fin 3 → ℕ) (h : ∀ a, off a + S8x33x33.size a ≤ S128x33x33.size a) (n : Fin 16)
    (ho : off = ![8 * n.val, 0, 0]) (k : Fin 8) (i j : Fin 33) :
    View.ld (Val := Elt Ideal) (e' := .f32) G (Rect.unit (s := S128x33x33) off S8x33x33.size h) (ix3 k i j) = G (ix3 ⟨8 * n.val + k.val, by omega⟩ i j) := by
  subst ho
  exact at_emb G h k i j _ _ _ rfl (by omega) (by omega)

/-- The sixteen stores of the second moments, the last one first. -/
def momentStores (a : Fin 16 → FVec Ideal S8x33x33 .f32) : List (View.Piece (Elt Ideal) S128x33x33 .f32) :=
  [⟨Rect.unit (s := S128x33x33) ![120, 0, 0] ![8, 33, 33] inb_S128x33x33_S8x33x33_120_0_0, a 15⟩,
   ⟨Rect.unit (s := S128x33x33) ![112, 0, 0] ![8, 33, 33] inb_S128x33x33_S8x33x33_112_0_0, a 14⟩,
   ⟨Rect.unit (s := S128x33x33) ![104, 0, 0] ![8, 33, 33] inb_S128x33x33_S8x33x33_104_0_0, a 13⟩,
   ⟨Rect.unit (s := S128x33x33) ![96, 0, 0] ![8, 33, 33] inb_S128x33x33_S8x33x33_96_0_0, a 12⟩,
   ⟨Rect.unit (s := S128x33x33) ![88, 0, 0] ![8, 33, 33] inb_S128x33x33_S8x33x33_88_0_0, a 11⟩,
   ⟨Rect.unit (s := S128x33x33) ![80, 0, 0] ![8, 33, 33] inb_S128x33x33_S8x33x33_80_0_0, a 10⟩,
   ⟨Rect.unit (s := S128x33x33) ![72, 0, 0] ![8, 33, 33] inb_S128x33x33_S8x33x33_72_0_0, a 9⟩,
   ⟨Rect.unit (s := S128x33x33) ![64, 0, 0] ![8, 33, 33] inb_S128x33x33_S8x33x33_64_0_0, a 8⟩,
   ⟨Rect.unit (s := S128x33x33) ![56, 0, 0] ![8, 33, 33] inb_S128x33x33_S8x33x33_56_0_0, a 7⟩,
   ⟨Rect.unit (s := S128x33x33) ![48, 0, 0] ![8, 33, 33] inb_S128x33x33_S8x33x33_48_0_0, a 6⟩,
   ⟨Rect.unit (s := S128x33x33) ![40, 0, 0] ![8, 33, 33] inb_S128x33x33_S8x33x33_40_0_0, a 5⟩,
   ⟨Rect.unit (s := S128x33x33) ![32, 0, 0] ![8, 33, 33] inb_S128x33x33_S8x33x33_32_0_0, a 4⟩,
   ⟨Rect.unit (s := S128x33x33) ![24, 0, 0] ![8, 33, 33] inb_S128x33x33_S8x33x33_24_0_0, a 3⟩,
   ⟨Rect.unit (s := S128x33x33) ![16, 0, 0] ![8, 33, 33] inb_S128x33x33_S8x33x33_16_0_0, a 2⟩,
   ⟨Rect.unit (s := S128x33x33) ![8, 0, 0] ![8, 33, 33] inb_S128x33x33_S8x33x33_8_0_0, a 1⟩,
   ⟨Rect.unit (s := S128x33x33) ![0, 0, 0] ![8, 33, 33] inb_S128x33x33_S8x33x33_0_0_0, a 0⟩]

/-- Sixteen blocks of eight rows as one array. -/
def stack (a : Fin 16 → FVec Ideal S8x33x33 .f32) : FVec Ideal S128x33x33 .f32 := fun y =>
  a ⟨(y 0).val / 8, by have : (y 0).val < 128 := (y 0).isLt; omega⟩ (ix3 (⟨(y 0).val % 8, by omega⟩ : Fin 8) (y 1) (y 2))

/-- An entry of a block among the sixteen. -/
theorem stack_at (a : Fin 16 → FVec Ideal S8x33x33 .f32) (b : Fin 16) (k : Fin 8) (i j : Fin 33) (q : Fin 128) (hq : q.val = 8 * b.val + k.val) :
    stack a (ix3 q i j) = a b (ix3 k i j) :=
  entry_congr a (Fin.ext (by show q.val / 8 = b.val; omega)) (by show q.val % 8 = k.val; omega) i j

/-- One store is a block of the array. -/
theorem piece_stack (a : Fin 16 → FVec Ideal S8x33x33 .f32) (b : Fin 16) (o : ℕ) (ho : o = 8 * b.val)
    (h : ∀ a : Fin 3, (![o, 0, 0] : Fin 3 → ℕ) a + (![8, 33, 33] : Fin 3 → ℕ) a ≤ (![128, 33, 33] : Fin 3 → ℕ) a)
    (x : (Rect.unit (s := S128x33x33) ![o, 0, 0] ![8, 33, 33] h).shape.Idx) :
    a b x = stack a ((Rect.unit (s := S128x33x33) ![o, 0, 0] ![8, 33, 33] h).emb x) := by
  obtain ⟨k, i, j, rfl⟩ : ∃ (k : Fin 8) (i j : Fin 33), x = ix3 k i j := ⟨_, _, _, eq_ix3 x⟩
  exact ((at_emb (stack a) h k i j ⟨o + k.val, by omega⟩ i j rfl (by omega) (by omega)).trans (stack_at a b k i j _ (by show o + k.val = _; omega))).symm

/-- The sixteen stores make up the array of the sixteen blocks. -/
theorem canon_momentStores (a : Fin 16 → FVec Ideal S8x33x33 .f32) : View.canon (momentStores a) = stack a := by
  funext y
  have h := View.canon_append_of_piecesOf (stack a) [] (momentStores a)
    ⟨piece_stack a 15 _ rfl inb_S128x33x33_S8x33x33_120_0_0, piece_stack a 14 _ rfl inb_S128x33x33_S8x33x33_112_0_0, piece_stack a 13 _ rfl inb_S128x33x33_S8x33x33_104_0_0, piece_stack a 12 _ rfl inb_S128x33x33_S8x33x33_96_0_0, piece_stack a 11 _ rfl inb_S128x33x33_S8x33x33_88_0_0,
      piece_stack a 10 _ rfl inb_S128x33x33_S8x33x33_80_0_0, piece_stack a 9 _ rfl inb_S128x33x33_S8x33x33_72_0_0, piece_stack a 8 _ rfl inb_S128x33x33_S8x33x33_64_0_0, piece_stack a 7 _ rfl inb_S128x33x33_S8x33x33_56_0_0, piece_stack a 6 _ rfl inb_S128x33x33_S8x33x33_48_0_0,
      piece_stack a 5 _ rfl inb_S128x33x33_S8x33x33_40_0_0, piece_stack a 4 _ rfl inb_S128x33x33_S8x33x33_32_0_0, piece_stack a 3 _ rfl inb_S128x33x33_S8x33x33_24_0_0, piece_stack a 2 _ rfl inb_S128x33x33_S8x33x33_16_0_0, piece_stack a 1 _ rfl inb_S128x33x33_S8x33x33_8_0_0,
      piece_stack a 0 _ rfl inb_S128x33x33_S8x33x33_0_0_0, trivial⟩ y (View.cover_of_tiledL (momentStores a) ![8, 33, 33] (by sl_kernel_rfl) y)
  rwa [List.append_nil] at h

/-- The whole array, loaded. -/
theorem readCov_momentStores (v : View sig .tc .vmem S128x33x33 .f32) (a : Fin 16 → FVec Ideal S8x33x33 .f32) (q : Fin 128) (i j : Fin 33) :
    v.readCov (momentStores a) (Rect.unit (s := S128x33x33) ![0, 0, 0] ![128, 33, 33] inb_S128x33x33_S128x33x33_0_0_0).toLoadRect (ix3 q i j)
      = stack a (ix3 q i j) := by
  rw [View.readCov_eq_canon', canon_momentStores]
  exact at_emb (stack a) inb_S128x33x33_S128x33x33_0_0_0 q i j q i j (by omega) (by omega) (by omega)

/-- A block's rows of the tokens, loaded out of the whole copy of them. -/
theorem readCov_tokens (v : View sig .tc .vmem S16x41x512 .f32) (X : FVec Ideal S16x41x512 .f32) (b : Fin 16) (o : ℕ) (ho : o = b.val)
    (h : ∀ a : Fin 3, (![o, 0, 0] : Fin 3 → ℕ) a + (![1, 41, 512] : Fin 3 → ℕ) a ≤ (![16, 41, 512] : Fin 3 → ℕ) a) (u : Fin 1) (r : Fin 41) (t : Fin 512) :
    v.readCov (Val := Elt Ideal) [⟨Rect.whole S16x41x512, X⟩] (Rect.unit (s := S16x41x512) ![o, 0, 0] ![1, 41, 512] h).toLoadRect (ix3 u r t) = X (ix3 b r t) := by
  rw [View.readCov_eq_canon']
  have e : View.canon (Val := Elt Ideal) (s := S16x41x512) (e := .f32) [⟨Rect.whole S16x41x512, X⟩] = X := by
    funext y
    exact View.canon_append_of_piecesOf X [] [(⟨Rect.whole S16x41x512, X⟩ : View.Piece (Elt Ideal) S16x41x512 .f32)]
      ⟨fun x => congrArg X (Rect.emb_whole_apply S16x41x512 x).symm, trivial⟩ y
      ⟨_, List.mem_singleton.mpr rfl, by rw [Rect.set_whole]; exact Finset.mem_univ y⟩
  rw [e]
  exact at_emb X h u r t b r t (by omega) (by omega) (by omega)

end Cert.KernelRead

end
-- ==== Proof.KernelValue.lean ====
/- What the kernel's program leaves in its result: the loss. -/
module

public import proofs.«01_k».proof.Proof.KernelRead
public import proofs.«01_k».proof.Proof.Data

@[expose] public section

set_option maxRecDepth 16384

noncomputable section

namespace Cert.KernelValue

open Cert.KernelIdeal Cert.KernelIdeal.Gen Cert.KernelPay Cert.KernelRead Cert.KernelOperands Cert.RealMath Cert.Loss Cert.Coe
open Idealize.ShloMosaic Idealize.ShloMosaic.TcCoe Idealize.SL.Sem

variable (m : (ℓ : Loc nD τ sig) → Buf (Elt Ideal) ℓ)

/-- The second moments of a block at its tokens' rows. -/
theorem moments_at (v : FVec Ideal S1x41x512 .f32) (x : Fin 512 → Fin 32 → ℝ) (g : Fin 512 → Fin 8 → ℝ)
    (hx : ∀ (i : Fin 33) t, v (ix3 0 ⟨i.val, by omega⟩ t) = ((bordered (x t) i : ℝ) : EReal))
    (hg : ∀ (k : Fin 8) t, v (ix3 0 ⟨33 + k.val, by omega⟩ t) = ((g t k : ℝ) : EReal)) (k : Fin 8) (i j : Fin 33) :
    moments v (ix3 k i j) = ((∑ t, g t k * bordered (x t) i * bordered (x t) j : ℝ) : EReal) := by
  rw [← coe_sum]
  exact Finset.sum_congr rfl fun t _ => (congrArg₂ (· * ·) (congrArg₂ (· * ·) (hg k t) (hx i t)) (hx j t)).trans (by rw [EReal.coe_mul, EReal.coe_mul])

variable {s : Fin 16 → Fin 16} {x : Fin 16 → Fin 512 → Fin 32 → ℝ} {μ : Fin 16 → Fin 8 → Fin 32 → ℝ} {L : Fin 16 → Fin 8 → M32}
  {g : Fin 16 → Fin 512 → Fin 8 → ℝ}

/-- The memory of a core holds these numbers. -/
def Holds (c : Dev nD) (s : Fin 16 → Fin 16) (x : Fin 16 → Fin 512 → Fin 32 → ℝ) (μ : Fin 16 → Fin 8 → Fin 32 → ℝ) (L : Fin 16 → Fin 8 → M32)
    (g : Fin 16 → Fin 512 → Fin 8 → ℝ) : Prop :=
  Data (m ((c : Thread nD τ).loc main_arg0)) (m ((c : Thread nD τ).loc main_arg3)) (m ((c : Thread nD τ).loc main_arg4))
    (m ((c : Thread nD τ).loc main_arg5)) (m ((c : Thread nD τ).loc main_arg6)) s x μ L g

variable {m}

/-- A family by subject and head as one of 128 rows. -/
def byRow {α : Type} (f : Fin 16 → Fin 8 → α) (q : Fin 128) : α := f ⟨q.val / 8, by omega⟩ ⟨q.val % 8, by omega⟩

/-- Row `8 p + k` is subject `p`'s, head `k`'s. -/
theorem byRow_at {α : Type} (f : Fin 16 → Fin 8 → α) (p : Fin 16) (k : Fin 8) (q : Fin 128) (hq : q.val = 8 * p.val + k.val) : byRow f q = f p k :=
  congrArg₂ f (Fin.ext (by show q.val / 8 = p.val; omega)) (Fin.ext (by show q.val % 8 = k.val; omega))

/-- The means, as the region reads them. -/
theorem means_read {c : Dev nD} (D : Holds m c s x μ L g) :
    (iblk m c 2 t0_0 : FVec Ideal S128x32 .f32) = toW (byRow μ) := by
  funext y
  obtain ⟨q, e, rfl⟩ : ∃ q e, y = ix2 q e := ⟨_, _, eq_ix2 y⟩
  rw [toW_at]
  exact (in2 m c q e).trans (D.mean _ _ _)

/-- The factors, as the region reads them. -/
theorem factors_read {c : Dev nD} (D : Holds m c s x μ L g) :
    (iblk m c 4 t0_0 : FVec Ideal S128x32x32 .f32) = toV (byRow L) := by
  funext y
  obtain ⟨q, i, j, rfl⟩ : ∃ q i j, y = ix3 q i j := ⟨_, _, _, eq_ix3 y⟩
  rw [toV_at]
  exact (in4 m c q i j).trans (D.factor _ _ _ _)

/-- The tokens' rows, as the region reads them. -/
theorem tokens_read {c : Dev nD} (D : Holds m c s x μ L g) (b : Fin 16) (i : Fin 33) (t : Fin 512) :
    (V m c main_v2 : FVec Ideal S16x41x512 .f32) (ix3 b ⟨i.val, by omega⟩ t) = ((bordered (x b t) i : ℝ) : EReal) := by
  rw [token, bordered]
  split_ifs with h
  · exact D.token _ _ _
  · rfl

/-- The tokens' weights, as the region reads them. -/
theorem weights_read {c : Dev nD} (D : Holds m c s x μ L g) (b : Fin 16) (k : Fin 8) (t : Fin 512) :
    (V m c main_v2 : FVec Ideal S16x41x512 .f32) (ix3 b ⟨33 + k.val, by omega⟩ t) = ((g b t k : ℝ) : EReal) :=
  (tokenWeight m c b k t).trans (D.weight _ _ _)

/-- A reading of a factor that changes nothing. -/
theorem pay2_id (v : FVec Ideal S128x32x32 .f32) : k0_pay2 (F := Ideal) v = v := by
  funext y; idx_vars y
  pointwise [k0_pay2]

/-- A reading of a mean that changes nothing. -/
theorem pay6_id (v : FVec Ideal S128x32 .f32) : k0_pay6 (F := Ideal) v = v := by
  funext y; idx_vars y
  pointwise [k0_pay6]

/-- The matrix of a factor's Mahalanobis lengths. -/
def gram (L : M32) : M32 := (productInverse L).transpose * productInverse L

/-- An entry of the bordered matrix of a block's subject. -/
def entry (s : Fin 16 → Fin 16) (μ : Fin 16 → Fin 8 → Fin 32 → ℝ) (L : Fin 16 → Fin 8 → M32) (b : Fin 16) (k : Fin 8) (i j : Fin 33) : EReal :=
  ((border (gram (L (s b) k)) (μ (s b) k) (constantPart (L (s b) k)) i j : ℝ) : EReal)

/-- An entry of a block's second moments. -/
def second (x : Fin 16 → Fin 512 → Fin 32 → ℝ) (g : Fin 16 → Fin 512 → Fin 8 → ℝ) (b : Fin 16) (k : Fin 8) (i j : Fin 33) : EReal :=
  ((∑ t, g b t k * bordered (x b t) i * bordered (x b t) j : ℝ) : EReal)

/-- The kernel's large sum: over blocks and heads, the bordered matrix of the block's subject times the block's second moments. -/
theorem total_at (l0 l1 l2 l3 l4 l5 l6 l7 l8 l9 l10 l11 l12 l13 l14 l15 : FVec Ideal S8x33x33 .f32) (sm : FVec Ideal S128x33x33 .f32)
    (h0 : ∀ k i j, l0 (ix3 k i j) = entry s μ L 0 k i j)
    (h1 : ∀ k i j, l1 (ix3 k i j) = entry s μ L 1 k i j)
    (h2 : ∀ k i j, l2 (ix3 k i j) = entry s μ L 2 k i j)
    (h3 : ∀ k i j, l3 (ix3 k i j) = entry s μ L 3 k i j)
    (h4 : ∀ k i j, l4 (ix3 k i j) = entry s μ L 4 k i j)
    (h5 : ∀ k i j, l5 (ix3 k i j) = entry s μ L 5 k i j)
    (h6 : ∀ k i j, l6 (ix3 k i j) = entry s μ L 6 k i j)
    (h7 : ∀ k i j, l7 (ix3 k i j) = entry s μ L 7 k i j)
    (h8 : ∀ k i j, l8 (ix3 k i j) = entry s μ L 8 k i j)
    (h9 : ∀ k i j, l9 (ix3 k i j) = entry s μ L 9 k i j)
    (h10 : ∀ k i j, l10 (ix3 k i j) = entry s μ L 10 k i j)
    (h11 : ∀ k i j, l11 (ix3 k i j) = entry s μ L 11 k i j)
    (h12 : ∀ k i j, l12 (ix3 k i j) = entry s μ L 12 k i j)
    (h13 : ∀ k i j, l13 (ix3 k i j) = entry s μ L 13 k i j)
    (h14 : ∀ k i j, l14 (ix3 k i j) = entry s μ L 14 k i j)
    (h15 : ∀ k i j, l15 (ix3 k i j) = entry s μ L 15 k i j)
    (hm : ∀ (b : Fin 16) (k : Fin 8) (i j : Fin 33), sm (ix3 ⟨8 * b.val + k.val, by omega⟩ i j) = second x g b k i j) :
    k0_pay40 (F := Ideal) l0 l1 l2 l3 l4 l5 l6 l7 l8 l9 l10 l11 l12 l13 l14 l15 sm
      = ((∑ b, ∑ k, ∑ i, ∑ j, border (gram (L (s b) k)) (μ (s b) k) (constantPart (L (s b) k)) i j
          * ∑ t, g b t k * bordered (x b t) i * bordered (x b t) j : ℝ) : EReal) := by
  refine (pay40_at ![l0, l1, l2, l3, l4, l5, l6, l7, l8, l9, l10, l11, l12, l13, l14, l15] sm).trans ?_
  simp only [← coe_sum]
  refine Finset.sum_congr rfl fun b _ => Finset.sum_congr rfl fun k _ => Finset.sum_congr rfl fun i _ => Finset.sum_congr rfl fun j _ => ?_
  rw [EReal.coe_mul, hm]
  refine congrArg₂ (· * ·) ?_ rfl
  fin_cases b
  · exact h0 k i j
  · exact h1 k i j
  · exact h2 k i j
  · exact h3 k i j
  · exact h4 k i j
  · exact h5 k i j
  · exact h6 k i j
  · exact h7 k i j
  · exact h8 k i j
  · exact h9 k i j
  · exact h10 k i j
  · exact h11 k i j
  · exact h12 k i j
  · exact h13 k i j
  · exact h14 k i j
  · exact h15 k i j

/-- Where a block's subject's rows begin. -/
theorem off_eq (W : BitVec 32) (n : Fin 16) (hW : W = BitVec.ofNat 32 n.val) : k0_off1 W = ![8 * n.val, 0, 0] := by
  have hb : W.toNat = n.val := by
    rw [hW, BitVec.toNat_ofNat]; exact Nat.mod_eq_of_lt (by omega)
  have := Words.rows_inside (w := W) (by omega)
  rw [hb] at this
  show (![(Scalar.indexCast (Scalar.muli W 8#32) : Index).toNat, 0, 0] : Fin 3 → ℕ) = _
  rw [this]

/-- The eight loaded rows of a block's subject. -/
theorem load_at {c : Dev nD} (D : Holds m c s x μ L g) (b : Fin 16) (off : Fin 3 → ℕ) (h : ∀ a, off a + S8x33x33.size a ≤ S128x33x33.size a)
    (ho : off = ![8 * (s b).val, 0, 0]) (k : Fin 8) (i j : Fin 33) :
    View.ld (Val := Elt Ideal) (e' := .f32) (View.canon (borderStores (k0_pay4 (F := Ideal) (iblk m c 4 t0_0)) (k0_pay5 (F := Ideal) (iblk m c 4 t0_0)) (iblk m c 2 t0_0)))
      (Rect.unit (s := S128x33x33) off S8x33x33.size h) (ix3 k i j) = entry s μ L b k i j := by
  refine (ld_subject _ _ _ (s b) ho k i j).trans ?_
  have e : View.canon (borderStores (k0_pay4 (F := Ideal) (iblk m c 4 t0_0)) (k0_pay5 (F := Ideal) (iblk m c 4 t0_0)) (iblk m c 2 t0_0))
      = borders (byRow L) (byRow fun p k => gram (L p k)) (byRow μ) := by
    rw [factors_read D, means_read D, pay5_toV (byRow L) fun q i => (D.positive _ _ i).ne']
    exact canon_borderStores (byRow L) _ (byRow μ) fun q i => D.positive _ _ i
  refine (congrFun e _).trans ((borders_at _ _ _ _ i j).trans ?_)
  rw [byRow_at L (s b) k _ rfl, byRow_at μ (s b) k _ rfl, byRow_at (fun p k => gram (L p k)) (s b) k _ rfl]
  rfl

/-- The word of a block's subject, read. -/
theorem word_at {c : Dev nD} (D : Holds m c s x μ L g) (b : Fin 16) (o : ℕ) (ob : o = b.val) (hI : (Memref.whole cc0_stg0_0).IsWhole)
    (hb : ∀ a : Fin 1, (![o] : Fin 1 → ℕ) a + S1.size a ≤ S16.size a) (hf : 0 < (Rect.unit (s := S16) ![o] S1.size hb).shape.numel) :
    View.ld (Val := Elt Ideal) (e' := .i32) (View.read (Elt Ideal) (View.whole cc0_stg0_0) (hI.unread (iblk m c 0 t0_0)))
      (Rect.unit (s := S16) ![o] S1.size hb) (Shape.Idx.first hf) = BitVec.ofNat 32 (s b).val := by
  subst ob
  rw [read_unread_whole]
  refine (View.ld_unit_apply_of _ _ _ _ _ (ix1 b) fun a => ?_).trans ((in0 m c b).trans (D.subject b))
  match a with
  | 0 => rfl

/-- A block's rows of the tokens lie inside. -/
theorem tokens_inside (b : Fin 16) (a : Fin 3) : (![b.val, 0, 0] : Fin 3 → ℕ) a + (![1, 41, 512] : Fin 3 → ℕ) a ≤ (![16, 41, 512] : Fin 3 → ℕ) a := by
  match a with
  | 0 => show b.val + 1 ≤ 16; omega
  | 1 => exact Nat.le_refl 41
  | 2 => exact Nat.le_refl 512

/-- A block's rows, loaded out of the whole copy of the tokens. -/
def blockRows (X : FVec Ideal S16x41x512 .f32) (b : Fin 16) : FVec Ideal S1x41x512 .f32 :=
  (View.whole cc0_scratch2).readCov (Val := Elt Ideal) [⟨Rect.whole S16x41x512, X⟩]
    (Rect.unit (s := S16x41x512) ![b.val, 0, 0] ![1, 41, 512] (tokens_inside b)).toLoadRect

/-- The second moments, loaded. -/
theorem second_at {c : Dev nD} (D : Holds m c s x μ L g) (b : Fin 16) (k : Fin 8) (i j : Fin 33) :
    (View.whole cc0_scratch1).readCov (Val := Elt Ideal) (momentStores fun b => moments (blockRows (V m c main_v2) b))
      (Rect.unit (s := S128x33x33) ![0, 0, 0] ![128, 33, 33] inb_S128x33x33_S128x33x33_0_0_0).toLoadRect (ix3 ⟨8 * b.val + k.val, by omega⟩ i j) = second x g b k i j := by
  rw [readCov_momentStores, stack_at _ b k i j _ rfl]
  exact moments_at _ (x b) (g b) (fun i t => (readCov_tokens _ _ b _ rfl (tokens_inside b) 0 _ t).trans (tokens_read D b i t))
    (fun k t => (readCov_tokens _ _ b _ rfl (tokens_inside b) 0 _ t).trans (weights_read D b k t)) k i j

/-- The region leaves the loss. -/
theorem final (hH : Hyps m) {c : Dev nD} (D : Holds m c s x μ L g) :
    (dats m hH 0 c).arrAt 6 (cfgs 0).N
      = (fun _ => loss s x μ L g (m ((c : Thread nD τ).loc main_arg1)) (m ((c : Thread nD τ).loc main_arg2)) : FVec Ideal S1x1 .f32) := by
  have e2 : (fun (p : Fin 16) (k : Fin 8) (e : Fin 32) => (iblk m c 2 t0_0 : FVec Ideal S128x32 .f32) (ix2 ⟨p.val * 8 + k.val, by omega⟩ e))
      = fun p k e => ((μ p k e : ℝ) : EReal) := by
    funext p k e
    rw [means_read D, toW_at, byRow_at μ p k _ (by show p.val * 8 + k.val = _; omega)]
  have e4 : (fun (p : Fin 16) (k : Fin 8) (i j : Fin 32) => (iblk m c 4 t0_0 : FVec Ideal S128x32x32 .f32) (ix3 ⟨p.val * 8 + k.val, by omega⟩ i j))
      = fun p k i j => ((L p k i j : ℝ) : EReal) := by
    funext p k i j
    rw [factors_read D, toV_at, byRow_at L p k _ (by show p.val * 8 + k.val = _; omega)]
  have e3 : (fun (k : Fin 8) (e : Fin 32) => (iblk m c 3 t0_0 : FVec Ideal S8x32 .f32) (ix2 k e)) = fun k e => m ((c : Thread nD τ).loc main_arg1) (ix2 k e) := by
    funext k e
    exact in3 m c k e
  have e5 : (fun (k : Fin 8) (i j : Fin 32) => (iblk m c 5 t0_0 : FVec Ideal S8x32x32 .f32) (ix3 k i j))
      = fun k i j => m ((c : Thread nD τ).loc main_arg2) (ix3 k i j) := by
    funext k i j
    exact in5 m c k i j
  refine (dats m hH 0 c).arrAt_eq_of_after_last 6 t0_0 (by decide +kernel) _ fun j => ?_
  blk_simp
  rw [after0_6]
  unfold outsAt0
  frame_out
  simp only [read_unread_whole, moment0, moment1, moment2, moment3, moment4, moment5, moment6, moment7, moment8, moment9, moment10, moment11,
    moment12, moment13, moment14, moment15]
  have hs : ∀ b : Fin 16, (iblk m c 1 t0_0 : IVec S1x16 32) (ix2 0 b) = BitVec.ofNat 32 (s b).val := fun b => (in1 m c b).trans (D.subject b)
  rw [total_at (s := s) (x := x) (μ := μ) (L := L) (g := g)]
  case hm => exact second_at D
  case h0 => exact load_at D 0 _ _ (off_eq _ _ (word_at D 0 _ rfl _ _ _))
  case h1 => exact load_at D 1 _ _ (off_eq _ _ (word_at D 1 _ rfl _ _ _))
  case h2 => exact load_at D 2 _ _ (off_eq _ _ (word_at D 2 _ rfl _ _ _))
  case h3 => exact load_at D 3 _ _ (off_eq _ _ (word_at D 3 _ rfl _ _ _))
  case h4 => exact load_at D 4 _ _ (off_eq _ _ (word_at D 4 _ rfl _ _ _))
  case h5 => exact load_at D 5 _ _ (off_eq _ _ (word_at D 5 _ rfl _ _ _))
  case h6 => exact load_at D 6 _ _ (off_eq _ _ (word_at D 6 _ rfl _ _ _))
  case h7 => exact load_at D 7 _ _ (off_eq _ _ (word_at D 7 _ rfl _ _ _))
  case h8 => exact load_at D 8 _ _ (off_eq _ _ (word_at D 8 _ rfl _ _ _))
  case h9 => exact load_at D 9 _ _ (off_eq _ _ (word_at D 9 _ rfl _ _ _))
  case h10 => exact load_at D 10 _ _ (off_eq _ _ (word_at D 10 _ rfl _ _ _))
  case h11 => exact load_at D 11 _ _ (off_eq _ _ (word_at D 11 _ rfl _ _ _))
  case h12 => exact load_at D 12 _ _ (off_eq _ _ (word_at D 12 _ rfl _ _ _))
  case h13 => exact load_at D 13 _ _ (off_eq _ _ (word_at D 13 _ rfl _ _ _))
  case h14 => exact load_at D 14 _ _ (off_eq _ _ (word_at D 14 _ rfl _ _ _))
  case h15 => exact load_at D 15 _ _ (off_eq _ _ (word_at D 15 _ rfl _ _ _))
  rw [pay41_real, pay6_id, pay2_id, pay43_at s _ hs, pay44_at s _ hs, pay1_at, pay45_at s _ hs]
  unfold gram
  rw [nll_eq]
  unfold loss regulariser
  rw [e2, e3, e4, e5]

end Cert.KernelValue

end
-- ==== Proof.KernelRun.lean ====
/- The kernel's program's result at the end of its run: the loss, reshaped to a scalar. -/
module

public import proofs.«01_k».proof.Proof.KernelValue
public import Idealize.ShloMosaic.Lib.Claim

@[expose] public section

set_option maxRecDepth 16384

noncomputable section

namespace Cert.KernelRun

open Cert.KernelIdeal Cert.KernelIdeal.Gen Cert.KernelValue Cert.RealMath Cert.Loss
open Idealize.ShloMosaic Idealize.ShloMosaic.TcCoe Idealize.SL.Sem

variable (m : (ℓ : Loc nD τ sig) → Buf (Elt Ideal) ℓ)

/-- The result holds what the kernel's output window holds. -/
theorem result_eq (hH : Hyps m) (c : Dev nD) :
    Pipeline.afterTail₀ cfgs (dats m hH) 0 (V0 m) [hostOps1] c main_v7
      = (shapeCast S_ ((dats m hH 0 c).arrAt 6 (cfgs 0).N : FVec Ideal S1x1 .f32) shapeCasts_S1x1_S_ : FVec Ideal S_ .f32) := by
  have e : Pipeline.withArrays (cfgs 0).spec c (V0 m c) (fun w => (dats m hH 0 c).arrAt w (cfgs 0).N) (Proc.devRef .tc main_v6)
      = (dats m hH 0 c).arrAt 6 (cfgs 0).N :=
    Pipeline.withArrays_arr spec0 winFacts0.arr_inj c (V0 m c) (fun w => (dats m hH 0 c).arrAt w (cfgs 0).N) 6
  unfold Pipeline.afterTail₀
  simp only [List.flatten_cons, List.flatten_nil, List.append_nil, StableHlo.after_cons, StableHlo.after_nil]
  after_results_simp
  rw [e]
  rfl

/-- So it holds the loss. -/
theorem result {m : (ℓ : Loc nD τ sig) → Buf (Elt Ideal) ℓ} (hH : Hyps m) {c : Dev nD} {s x μ L g} (D : Holds m c s x μ L g) :
    Pipeline.afterTail₀ cfgs (dats m hH) 0 (V0 m) [hostOps1] c main_v7
      = (fun _ => loss s x μ L g (m ((c : Thread nD τ).loc main_arg1)) (m ((c : Thread nD τ).loc main_arg2)) : FVec Ideal S_ .f32) := by
  rw [result_eq, final hH D]
  rfl

end Cert.KernelRun

end
-- ==== Proof.RefParts.lean ====
/- The reference's parts, each at an index: the triangular solve's steps, the diagonals' logarithms, the squared lengths, the presences. -/
module

public import proofs.«01_k».proof.Proof.Data
public import proofs.«01_k».proof.Proof.Gen.ReferenceIdeal.StepRun
public import Idealize.ShloMosaic.Lib.Routing.OpsSet
public import Idealize.ShloMosaic.Lib.Pointwise

@[expose] public section

set_option maxRecDepth 16384

noncomputable section

namespace Cert.RefParts

open Cert.ReferenceIdeal Cert.ReferenceIdeal.Gen Cert.ReferenceIdeal.Step Cert.RealMath Cert.Coe Cert.Loss
open Idealize.ShloMosaic

/-! ## The triangular solve -/

section Solve

variable (a : FVec Ideal S16x8x32x32 .f32) (L : Fin 16 → Fin 8 → M32) (ha : ∀ p k i j, a (ix4 p k i j) = ((L p k i j : ℝ) : EReal))

include ha

/-- The part of the factors strictly below the diagonal. -/
theorem strict_at (p : Fin 16) (k : Fin 8) (i j : Fin 32) : (init (F := Ideal) a).main_v11_0 (ix4 p k i j) = ((strict (L p k) i j : ℝ) : EReal) := by
  show A_main_v9 (F := Ideal) a (ix4 p k i j) = _
  pointwise [A_main_v9, K_main_call0_v1, K_main_call0_v2, K_main_call0_v0, K_main_cst_0, K_main_v8, K_main_v0, K_main_v1]
  rw [ha, cmpi_sgt_ofNat (by omega) (by omega), strict]
  by_cases h : j < i
  · rw [if_pos h, decide_eq_true (show j.val < i.val from h)]
    rfl
  · rw [if_neg h, decide_eq_false (show ¬ j.val < i.val from h)]
    show (constant (F := Ideal) S_ .f32 0x00000000#32) ix0 = _
    pointwise
    exact EReal.coe_zero.symm

/-- The diagonals. -/
theorem diag_at (p : Fin 16) (k : Fin 8) (i : Fin 32) : (init (F := Ideal) a).main_v11_2 (ix3 p k i) = ((L p k i i : ℝ) : EReal) := by
  show A_main_v7 (F := Ideal) a (ix3 p k i) = _
  pointwise [A_main_v7, A_main_v6, K_main_v5, K_main_v4, K_main_v3, K_main_cst, K_main_v2, K_main_v0, K_main_v1]
  simp only [umask_eq (show 32 ≤ 1024 by decide), ha, ← EReal.coe_mul, coe_sum]
  congr 1
  simp

/-- One step: row `n` of the solution, from the rows before it. -/
theorem step_at (hL : ∀ p k i, L p k i i ≠ 0) (n : ℕ) (hn : n < 32) (s : State Ideal) (h0 : s.main_v11_0 = (init (F := Ideal) a).main_v11_0)
    (h2 : s.main_v11_2 = (init (F := Ideal) a).main_v11_2) (h6 : ∀ p k i j, s.main_v11_6 (ix4 p k i j) = ((forward (L p k) n i j : ℝ) : EReal))
    (p : Fin 16) (k : Fin 8) (i j : Fin 32) : (step n s).main_v11_6 (ix4 p k i j) = ((forward (L p k) (n + 1) i j : ℝ) : EReal) := by
  show b13 n s (ix4 p k i j) = _
  pointwise [b13, b12, b11, b10, b9, b8, b7, b6, b5, b4, b3, b2, K_main_v3, K_main_v2, K_main_v0, K_main_v1]
  show Scalar.select (IntOp.cmpi .eq (BitVec.ofNat 32 i.val) (BitVec.ofNat 32 n)) _ _ = _
  rw [cmpi_eq_ofNat (by omega) (by omega), forward_succ, h6]
  by_cases h : i.val = n
  · rw [if_pos h, decide_eq_true h]
    simp only [h0, h2, h6, strict_at a L ha, diag_at a L ha, umask_eq (show 32 ≤ 1024 by decide), ← EReal.coe_mul, coe_sum, ← EReal.coe_sub]
    rw [div_real (hL p k i)]
    rfl
  · rw [if_neg h, decide_eq_false h]
    rfl

/-- The states of the loop. -/
theorem states (hL : ∀ p k i, L p k i i ≠ 0) (it : ℕ → State Ideal) (h0 : it 0 = init (F := Ideal) a) (hs : ∀ n, it (n + 1) = step n (it n)) (n : ℕ) (hn : n ≤ 32) :
    (it n).main_v11_0 = (init (F := Ideal) a).main_v11_0 ∧ (it n).main_v11_2 = (init (F := Ideal) a).main_v11_2
      ∧ ∀ p k i j, (it n).main_v11_6 (ix4 p k i j) = ((forward (L p k) n i j : ℝ) : EReal) := by
  induction n with
  | zero =>
    rw [h0]
    refine ⟨rfl, rfl, fun p k i j => ?_⟩
    show K_main_v10 (ix4 p k i j) = _
    pointwise [K_main_v10, K_main_cst_1]
    rfl
  | succ n ih =>
    obtain ⟨i0, i2, i6⟩ := ih (by omega)
    rw [hs]
    exact ⟨i0, i2, step_at a L ha hL n (by omega) _ i0 i2 i6⟩

/-- What the loop leaves: the factors' inverses. -/
theorem solved (hL : ∀ p k i, L p k i i ≠ 0) (it : ℕ → State Ideal) (h0 : it 0 = init (F := Ideal) a) (hs : ∀ n, it (n + 1) = step n (it n))
    (p : Fin 16) (k : Fin 8) (i j : Fin 32) : (it 32).main_v11_6 (ix4 p k i j) = ((productInverse (L p k) i j : ℝ) : EReal) := by
  rw [(states a L ha hL it h0 hs 32 le_rfl).2.2, forward_eq_product _ (hL p k)]

end Solve

/-! ## The diagonals' logarithms -/

/-- The places of the diagonal: each row's number twice. -/
def places : IVec S32x2 32 :=
  concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩] concatenates_S32x1_S32x1_S32x2_d1

/-- A small number is not negative. -/
theorem not_negative (i : Fin 32) : IntOp.cmpi .slt (BitVec.ofNat 32 i.val) 0#32 = 0#1 := by
  revert i; decide

/-- Each place. -/
theorem places_at (i : Fin 32) (c : Fin 2) : places (ix2 i c) = BitVec.ofNat 32 i.val := by
  pointwise [places]
  rw [not_negative]
  split_ifs <;> rfl

/-- The diagonal of each factor. -/
def diagonal (a : FVec Ideal S16x8x32x32 .f32) : FVec Ideal S16x8x32 .f32 :=
  Host.gather gather_S16x8x32x32_S32x2_S16x8x32_01_23_n_n_23_1_16811 a places

/-- How the diagonal is gathered. -/
abbrev diagDims : GatherDims S16x8x32x32 S32x2 S16x8x32 := gather_S16x8x32x32_S32x2_S16x8x32_01_23_n_n_23_1_16811

/-- The place that an entry of the diagonal reads. -/
theorem at_place (i : Fin 32) (y : S16x8x32.Idx) (hy : y 2 = i) (c : Fin diagDims.startIndexMap.length) (d : Fin 2) (hd : c.val = d.val) :
    diagDims.siIdx y c = ix2 i d := by
  funext b
  refine Fin.ext ?_
  match b with
  | 0 => exact congrArg Fin.val hy
  | 1 => exact hd

/-- An entry of it. -/
theorem diagonal_at (a : FVec Ideal S16x8x32x32 .f32) (p : Fin 16) (k : Fin 8) (i : Fin 32) : diagonal a (ix3 p k i) = a (ix4 p k i i) := by
  have hw : ∀ (c : Fin 2), (places (ix2 i c)).toInt.toNat = i.val := fun c => by
    rw [places_at]; revert i; decide
  unfold diagonal Host.gather
  congr 1
  funext b
  refine Fin.ext ?_
  show diagDims.start (ix3 p k i) places b + diagDims.batchCoord (ix3 p k i) b + diagDims.offCoord (ix3 p k i) b = _
  rw [GatherDims.batchCoord_eq_zero _ _ _ List.not_mem_nil, Nat.add_zero]
  match b with
  | 0 =>
    unfold GatherDims.start GatherDims.offCoord
    rw [dif_neg (by decide), dif_pos (by decide)]
    exact Nat.zero_add _
  | 1 =>
    unfold GatherDims.start GatherDims.offCoord
    rw [dif_neg (by decide), dif_pos (by decide)]
    exact Nat.zero_add _
  | 2 =>
    rw [GatherDims.offCoord_eq_zero _ _ _ (by decide), Nat.add_zero]
    unfold GatherDims.start
    rw [dif_pos (by decide), at_place i (ix3 p k i) rfl _ 0 (by decide)]
    exact (congrArg (fun z => min z 31) (hw 0)).trans (Nat.min_eq_left (by omega))
  | 3 =>
    rw [GatherDims.offCoord_eq_zero _ _ _ (by decide), Nat.add_zero]
    unfold GatherDims.start
    rw [dif_pos (by decide), at_place i (ix3 p k i) rfl _ 1 (by decide)]
    exact (congrArg (fun z => min z 31) (hw 1)).trans (Nat.min_eq_left (by omega))

/-! ## The presences -/

/-- The rows that the blocks' subjects mark. -/
def marks (ids : IVec S16 32) : IVec S16x1 32 :=
  broadcastInDim S16x1 ![0] bcast_S16_S16x1_0 (select (cmpi .slt ids (broadcastInDim S16 ![] bcast_S_S16 (constantI S_ 32 0#32))) (addi ids (broadcastInDim S16 ![] bcast_S_S16 (constantI S_ 32 16#32))) ids)

/-- Each is the block's subject. -/
theorem marks_at (ids : IVec S16 32) (s : Fin 16 → Fin 16) (hs : ∀ b, ids (ix1 b) = BitVec.ofNat 32 (s b).val) (b : Fin 16) :
    (marks ids (ix2 b (0 : Fin 1))).toInt = ((s b).val : ℤ) := by
  pointwise [marks]
  rw [hs]
  generalize s b = q
  revert q; decide

/-- The presences as the reference makes them. -/
def present (ids : IVec S16 32) : FVec Ideal S16 .f32 :=
  Host.scatter scatter_S16_S16x1_S16_n_0_0_1 (fun _ b => b) (broadcastInDim S16 ![] bcast_S_S16 (constant S_ .f32 0x00000000#32)) (marks ids) (broadcastInDim S16 ![] bcast_S_S16 (constant S_ .f32 0x3F800000#32))

/-- An entry of them. -/
theorem present_at (ids : IVec S16 32) (s : Fin 16 → Fin 16) (hs : ∀ b, ids (ix1 b) = BitVec.ofNat 32 (s b).val) (p : Fin 16) :
    present ids (ix1 p) = presence s p := by
  have key := Routing.scatter_set_signed scatter_S16_S16x1_S16_n_0_0_1 rfl rfl rfl (broadcastInDim S16 ![] bcast_S_S16 (constant (F := Ideal) S_ .f32 0x00000000#32))
    (marks ids) (broadcastInDim S16 ![] bcast_S_S16 (constant (F := Ideal) S_ .f32 0x3F800000#32)) p (1 : EReal) (fun b _ => by pointwise)
  unfold presence
  by_cases h : ∃ b, p = s b
  · rw [if_pos h]
    obtain ⟨b, hb⟩ := h
    exact key.1 ⟨b, (marks_at ids s hs b).trans (by rw [hb])⟩
  · rw [if_neg h]
    refine (key.2 fun b hb => h ⟨b, Fin.ext ?_⟩).trans ?_
    · have := (marks_at ids s hs b).symm.trans hb
      omega
    · pointwise
      exact EReal.coe_zero.symm

/-! ## The squared lengths -/

/-- Each token's transformed distance from a subject's mean. -/
def distance (X : FVec Ideal S16x8x32x32 .f32) (a0 : FVec Ideal S16x512x32 .f32) (a3 : FVec Ideal S16x8x32 .f32) : FVec Ideal S16x8192x8x32 .f32 :=
  transpose S16x8192x8x32 [0, 2, 1, 3] (Host.dotGeneral dot_S16x8192x8x32_S16x8x32x32_S16x8x8192x32_3_3_1_2_02_01 none (subf (broadcastInDim S16x8192x8x32 ![0, 1, 2, 3] bcast_S1x8192x1x32_S16x8192x8x32_0_1_2_3 (broadcastInDim S1x8192x1x32 ![1, 3] bcast_S8192x32_S1x8192x1x32_1_3 (shapeCast _ a0 shapeCasts_S16x512x32_S8192x32))) (broadcastInDim S16x8192x8x32 ![0, 1, 2, 3] bcast_S16x1x8x32_S16x8192x8x32_0_1_2_3 (broadcastInDim S16x1x8x32 ![0, 2, 3] bcast_S16x8x32_S16x1x8x32_0_2_3 a3))) X) transposes_S16x8x8192x32_S16x8192x8x32_0_2_1_3

/-- An entry of it. -/
theorem distance_at (X : FVec Ideal S16x8x32x32 .f32) (a0 : FVec Ideal S16x512x32 .f32) (a3 : FVec Ideal S16x8x32 .f32) (p : Fin 16) (n : Fin 8192) (k : Fin 8) (d : Fin 32) :
    distance X a0 a3 (ix4 p n k d) = ∑ e : Fin 32, (a0 (ix3 ⟨n.val / 512, by omega⟩ ⟨n.val % 512, by omega⟩ e) - a3 (ix3 p k e)) * X (ix4 p k d e) := by
  pointwise [distance]

end Cert.RefParts

end
-- ==== Proof.RefValue.lean ====
/- The reference's result: at proper arguments it is the loss. -/
module

public import proofs.«01_k».proof.Proof.RefParts

@[expose] public section

set_option maxRecDepth 16384

noncomputable section

namespace Cert.RefValue

open Cert.ReferenceIdeal Cert.ReferenceIdeal.Gen Cert.ReferenceIdeal.Step Cert.RealMath Cert.Coe Cert.Loss Cert.RefParts
open Idealize.ShloMosaic

/-! ## The likelihood -/

/-- Each token's log density under each subject's components. -/
def density (X : FVec Ideal S16x8x32x32 .f32) (a0 : FVec Ideal S16x512x32 .f32) (a3 : FVec Ideal S16x8x32 .f32) (a4 : FVec Ideal S16x8x32x32 .f32) : FVec Ideal S16x8192x8 .f32 :=
  subf (broadcastInDim S16x8192x8 ![0, 1, 2] bcast_S16x1x8_S16x8192x8_0_1_2 (subf (broadcastInDim S16x1x8 ![] bcast_S_S16x1x8 (constant S_ .f32 0xC1EB3F8E#32)) (broadcastInDim S16x1x8 ![0, 2] bcast_S16x8_S16x1x8_0_2 (Host.reduceAdd (Host.log (diagonal a4)) (constant S_ .f32 0x00000000#32) reducesTo_S16x8x32_S16x8_d2 h_S_)))) (mulf (broadcastInDim S16x8192x8 ![] bcast_S_S16x8192x8 (constant S_ .f32 0x3F000000#32)) (Host.reduceAdd (mulf (distance X a0 a3) (distance X a0 a3)) (constant S_ .f32 0x00000000#32) reducesTo_S16x8192x8x32_S16x8192x8_d3 h_S_))

/-- Each token's weight, zero under a subject that is not the token's own. -/
def masked (a5 : FVec Ideal S16x512x8 .f32) (ids : IVec S16 32) : FVec Ideal S16x8192x8 .f32 :=
  mulf (broadcastInDim S16x8192x8 ![0, 1, 2] bcast_S16x8192x1_S16x8192x8_0_1_2 (broadcastInDim S16x8192x1 ![0, 1] bcast_S16x8192_S16x8192x1_0_1 (uitofp .f32 (cmpi .eq (broadcastInDim S16x8192 ![0, 1] bcast_S1x8192_S16x8192_0_1 (broadcastInDim S1x8192 ![1] bcast_S8192_S1x8192_1 (shapeCast _ (broadcastInDim S16x512 ![0] bcast_S16_S16x512_0 ids) shapeCasts_S16x512_S8192))) (broadcastInDim S16x8192 ![0, 1] bcast_S16x1_S16x8192_0_1 (broadcastInDim S16x1 ![0] bcast_S16_S16x1_0 (iotaInDim S16 32 0))))))) (broadcastInDim S16x8192x8 ![0, 1, 2] bcast_S1x8192x8_S16x8192x8_0_1_2 (broadcastInDim S1x8192x8 ![1, 2] bcast_S8192x8_S1x8192x8_1_2 (shapeCast _ a5 shapeCasts_S16x512x8_S8192x8)))

/-- Their product. -/
def weighted (X : FVec Ideal S16x8x32x32 .f32) (a0 : FVec Ideal S16x512x32 .f32) (a3 : FVec Ideal S16x8x32 .f32) (a4 : FVec Ideal S16x8x32x32 .f32) (a5 : FVec Ideal S16x512x8 .f32) (ids : IVec S16 32) : FVec Ideal S16x8192x8 .f32 :=
  mulf (masked a5 ids) (density X a0 a3 a4)

/-- An entry of the densities. -/
theorem density_at (X : FVec Ideal S16x8x32x32 .f32) (a0 : FVec Ideal S16x512x32 .f32) (a3 : FVec Ideal S16x8x32 .f32) (a4 : FVec Ideal S16x8x32x32 .f32) (p : Fin 16) (n : Fin 8192) (k : Fin 8) :
    density X a0 a3 a4 (ix3 p n k) = (Ideal.ofBits .f32 0xC1EB3F8E#32 - ∑ i : Fin 32, Ideal.log (diagonal a4 (ix3 p k i)))
      - Ideal.ofBits .f32 0x3F000000#32 * ∑ d : Fin 32, distance X a0 a3 (ix4 p n k d) * distance X a0 a3 (ix4 p n k d) := by
  pointwise [density]

/-- An entry of the weights. -/
theorem masked_at (a5 : FVec Ideal S16x512x8 .f32) (ids : IVec S16 32) (p : Fin 16) (n : Fin 8192) (k : Fin 8) :
    masked a5 ids (ix3 p n k) = FloatOps.uitofp (F := Ideal) .f32 (IntOp.cmpi .eq (ids (ix1 ⟨n.val / 512, by omega⟩)) (BitVec.ofNat 32 p.val))
      * a5 (ix3 ⟨n.val / 512, by omega⟩ ⟨n.val % 512, by omega⟩ k) := by
  pointwise [masked]

/-! ## The regulariser -/

/-- The present subjects' squared distances from the population's means. -/
def meanSquares (ids : IVec S16 32) (a3 : FVec Ideal S16x8x32 .f32) (a1 : FVec Ideal S8x32 .f32) : FVec Ideal S16x8x32 .f32 :=
  mulf (broadcastInDim S16x8x32 ![0, 1, 2] bcast_S16x1x1_S16x8x32_0_1_2 (broadcastInDim S16x1x1 ![0] bcast_S16_S16x1x1_0 (present ids))) (mulf (subf a3 (broadcastInDim S16x8x32 ![0, 1, 2] bcast_S1x8x32_S16x8x32_0_1_2 (broadcastInDim S1x8x32 ![1, 2] bcast_S8x32_S1x8x32_1_2 a1))) (subf a3 (broadcastInDim S16x8x32 ![0, 1, 2] bcast_S1x8x32_S16x8x32_0_1_2 (broadcastInDim S1x8x32 ![1, 2] bcast_S8x32_S1x8x32_1_2 a1))))

/-- The present subjects' squared distances from the population's factors. -/
def factorSquares (ids : IVec S16 32) (a4 : FVec Ideal S16x8x32x32 .f32) (a2 : FVec Ideal S8x32x32 .f32) : FVec Ideal S16x8x32x32 .f32 :=
  mulf (broadcastInDim S16x8x32x32 ![0, 1, 2, 3] bcast_S16x1x1x1_S16x8x32x32_0_1_2_3 (broadcastInDim S16x1x1x1 ![0] bcast_S16_S16x1x1x1_0 (present ids))) (mulf (subf a4 (broadcastInDim S16x8x32x32 ![0, 1, 2, 3] bcast_S1x8x32x32_S16x8x32x32_0_1_2_3 (broadcastInDim S1x8x32x32 ![1, 2, 3] bcast_S8x32x32_S1x8x32x32_1_2_3 a2))) (subf a4 (broadcastInDim S16x8x32x32 ![0, 1, 2, 3] bcast_S1x8x32x32_S16x8x32x32_0_1_2_3 (broadcastInDim S1x8x32x32 ![1, 2, 3] bcast_S8x32x32_S1x8x32x32_1_2_3 a2))))

/-- An entry of the former. -/
theorem meanSquares_at (ids : IVec S16 32) (a3 : FVec Ideal S16x8x32 .f32) (a1 : FVec Ideal S8x32 .f32) (p : Fin 16) (k : Fin 8) (e : Fin 32) :
    meanSquares ids a3 a1 (ix3 p k e) = present ids (ix1 p) * ((a3 (ix3 p k e) - a1 (ix2 k e)) * (a3 (ix3 p k e) - a1 (ix2 k e))) := by
  pointwise [meanSquares]

/-- An entry of the latter. -/
theorem factorSquares_at (ids : IVec S16 32) (a4 : FVec Ideal S16x8x32x32 .f32) (a2 : FVec Ideal S8x32x32 .f32) (p : Fin 16) (k : Fin 8) (i j : Fin 32) :
    factorSquares ids a4 a2 (ix4 p k i j) = present ids (ix1 p) * ((a4 (ix4 p k i j) - a2 (ix3 k i j)) * (a4 (ix4 p k i j) - a2 (ix3 k i j))) := by
  pointwise [factorSquares]

/-! ## The sums over everything -/

/-- The sum of an array of three axes. -/
theorem total3 {n0 n1 n2 : ℕ} (h : (⟨3, ![n0, n1, n2]⟩ : Shape).ReducesTo [0, 1, 2] S_) (x : FVec Ideal ⟨3, ![n0, n1, n2]⟩ .f32) :
    Host.reduceAdd (F := Ideal) x (constant S_ .f32 0x00000000#32) h h_S_ ix0 = ∑ a : Fin n0, ∑ b : Fin n1, ∑ c : Fin n2, x (ix3 a b c) := by
  refine (Ideal.hostReduceAdd_total h (fun b => b.elim0) x _ ix0).trans ?_
  rw [sum_idx3]
  pointwise

/-- The sum of an array of four axes. -/
theorem total4 {n0 n1 n2 n3 : ℕ} (h : (⟨4, ![n0, n1, n2, n3]⟩ : Shape).ReducesTo [0, 1, 2, 3] S_) (x : FVec Ideal ⟨4, ![n0, n1, n2, n3]⟩ .f32) :
    Host.reduceAdd (F := Ideal) x (constant S_ .f32 0x00000000#32) h h_S_ ix0
      = ∑ a : Fin n0, ∑ b : Fin n1, ∑ c : Fin n2, ∑ d : Fin n3, x (ix4 a b c d) := by
  refine (Ideal.hostReduceAdd_total h (fun b => b.elim0) x _ ix0).trans ?_
  rw [sum_idx4]
  pointwise

/-- The sum of a row. -/
theorem total1 {n0 : ℕ} (h : (⟨1, ![n0]⟩ : Shape).ReducesTo [0] S_) (x : FVec Ideal ⟨1, ![n0]⟩ .f32) :
    Host.reduceAdd (F := Ideal) x (constant S_ .f32 0x00000000#32) h h_S_ ix0 = ∑ a : Fin n0, x (ix1 a) := by
  refine (Ideal.hostReduceAdd_total h (fun b => b.elim0) x _ ix0).trans ?_
  rw [sum_idx1]
  pointwise

/-- The result through those sums. -/
theorem result_at (st : State Ideal) (a0 : FVec Ideal S16x512x32 .f32) (a1 : FVec Ideal S8x32 .f32) (a2 : FVec Ideal S8x32x32 .f32)
    (a3 : FVec Ideal S16x8x32 .f32) (a4 : FVec Ideal S16x8x32x32 .f32) (a5 : FVec Ideal S16x512x8 .f32) (ids : IVec S16 32) :
    R_main_v82 (F := Ideal) st a0 a1 a2 a3 a4 a5 ids ix0
      = Ideal.div (-∑ p : Fin 16, ∑ n : Fin 8192, ∑ k : Fin 8, weighted st.main_v11_6 a0 a3 a4 a5 ids (ix3 p n k)) (Ideal.ofBits .f32 0x46000000#32)
        + Ideal.div (∑ p : Fin 16, present ids (ix1 p)) (Ideal.ofBits .f32 0x41800000#32)
          * (Ideal.ofBits .f32 0x3D4CCCCD#32 * (∑ p : Fin 16, ∑ k : Fin 8, ∑ e : Fin 32, meanSquares ids a3 a1 (ix3 p k e))
            + Ideal.ofBits .f32 0x3D4CCCCD#32 * (∑ p : Fin 16, ∑ k : Fin 8, ∑ i : Fin 32, ∑ j : Fin 32, factorSquares ids a4 a2 (ix4 p k i j))) := by
  rw [← total3 reducesTo_S16x8192x8_S_d0_1_2, ← total3 reducesTo_S16x8x32_S_d0_1_2, ← total4 reducesTo_S16x8x32x32_S_d0_1_2_3, ← total1 reducesTo_S16_S_d0]
  rfl

/-! ## The value -/

section Value

variable {s : Fin 16 → Fin 16} {x : Fin 16 → Fin 512 → Fin 32 → ℝ} {μ : Fin 16 → Fin 8 → Fin 32 → ℝ} {L : Fin 16 → Fin 8 → M32}
  {g : Fin 16 → Fin 512 → Fin 8 → ℝ} {a0 : FVec Ideal S16x512x32 .f32} {a3 : FVec Ideal S16x8x32 .f32} {a4 : FVec Ideal S16x8x32x32 .f32}
  {a5 : FVec Ideal S16x512x8 .f32} {ids : IVec S16 32} (D : Data a0 a3 a4 a5 ids s x μ L g)

include D

/-- An entry of the densities, as a real number. -/
theorem density_real (X : FVec Ideal S16x8x32x32 .f32) (hX : ∀ p k i j, X (ix4 p k i j) = ((productInverse (L p k) i j : ℝ) : EReal)) (p : Fin 16) (n : Fin 8192) (k : Fin 8) :
    density X a0 a3 a4 (ix3 p n k)
      = ((constantPart (L p k) - 2⁻¹ * quad (productInverse (L p k)) (μ p k) (x ⟨n.val / 512, by omega⟩ ⟨n.val % 512, by omega⟩) : ℝ) : EReal) := by
  have eD : ∀ d, distance X a0 a3 (ix4 p n k d)
      = ((∑ e : Fin 32, (x ⟨n.val / 512, by omega⟩ ⟨n.val % 512, by omega⟩ e - μ p k e) * productInverse (L p k) d e : ℝ) : EReal) := fun d => by
    rw [distance_at, ← coe_sum]
    refine Finset.sum_congr rfl fun e _ => ?_
    rw [D.token, D.mean, hX, EReal.coe_mul, EReal.coe_sub]
  have eL : ∑ i : Fin 32, Ideal.log (diagonal a4 (ix3 p k i)) = ((∑ i : Fin 32, Real.log (L p k i i) : ℝ) : EReal) := by
    rw [← coe_sum]
    refine Finset.sum_congr rfl fun i _ => ?_
    rw [diagonal_at, D.factor, log_real (D.positive p k i)]
  rw [density_at, eL, ofBits_logConst, ofBits_half]
  simp only [eD, ← EReal.coe_mul]
  rw [coe_sum, ← EReal.coe_mul, ← EReal.coe_sub, ← EReal.coe_sub]
  rfl

/-- An entry of the weights, as a real number. -/
theorem masked_real (p : Fin 16) (n : Fin 8192) (k : Fin 8) :
    masked a5 ids (ix3 p n k) = (((if s ⟨n.val / 512, by omega⟩ = p then 1 else 0) * g ⟨n.val / 512, by omega⟩ ⟨n.val % 512, by omega⟩ k : ℝ) : EReal) := by
  rw [masked_at, D.subject, D.weight, umask_eq (show 16 ≤ 1024 by decide), ← EReal.coe_mul]

/-- The sum over tokens and components. -/
theorem weighted_sum (X : FVec Ideal S16x8x32x32 .f32) (hX : ∀ p k i j, X (ix4 p k i j) = ((productInverse (L p k) i j : ℝ) : EReal)) :
    ∑ p : Fin 16, ∑ n : Fin 8192, ∑ k : Fin 8, weighted X a0 a3 a4 a5 ids (ix3 p n k)
      = ((∑ b, ∑ t, ∑ k, g b t k * (constantPart (L (s b) k) - 2⁻¹ * quad (productInverse (L (s b) k)) (μ (s b) k) (x b t)) : ℝ) : EReal) := by
  have eW : ∀ p n k, weighted X a0 a3 a4 a5 ids (ix3 p n k)
      = (((if s ⟨n.val / 512, by omega⟩ = p then 1 else 0) * g ⟨n.val / 512, by omega⟩ ⟨n.val % 512, by omega⟩ k
        * (constantPart (L p k) - 2⁻¹ * quad (productInverse (L p k)) (μ p k) (x ⟨n.val / 512, by omega⟩ ⟨n.val % 512, by omega⟩)) : ℝ) : EReal) := fun p n k => by
    rw [EReal.coe_mul, ← masked_real D, ← density_real D X hX]
    rfl
  simp only [eW, coe_sum]
  refine congrArg (fun r : ℝ => (r : EReal)) ?_
  rw [Finset.sum_comm, sum_tokens]
  refine Finset.sum_congr rfl fun b _ => Finset.sum_congr rfl fun t _ => ?_
  have eb : (⟨(512 * b.val + t.val) / 512, by omega⟩ : Fin 16) = b := Fin.ext (by show (512 * b.val + t.val) / 512 = b.val; omega)
  have et : (⟨(512 * b.val + t.val) % 512, by omega⟩ : Fin 512) = t := Fin.ext (by show (512 * b.val + t.val) % 512 = t.val; omega)
  simp only [eb, et]
  rw [Finset.sum_comm]
  refine Finset.sum_congr rfl fun k _ => ?_
  simp only [ite_mul, one_mul, zero_mul, Finset.sum_ite_eq, Finset.mem_univ, if_true]

/-- The regulariser's first sum. -/
theorem meanSquares_sum (a1 : FVec Ideal S8x32 .f32) :
    ∑ p : Fin 16, ∑ k : Fin 8, ∑ e : Fin 32, meanSquares ids a3 a1 (ix3 p k e) = means s (fun p k e => ((μ p k e : ℝ) : EReal)) (fun k e => a1 (ix2 k e)) := by
  unfold means
  refine Finset.sum_congr rfl fun p _ => ?_
  simp only [meanSquares_at, present_at ids s D.subject, D.mean, presence_mul_sum]

/-- Its second sum. -/
theorem factorSquares_sum (a2 : FVec Ideal S8x32x32 .f32) :
    ∑ p : Fin 16, ∑ k : Fin 8, ∑ i : Fin 32, ∑ j : Fin 32, factorSquares ids a4 a2 (ix4 p k i j)
      = factors s (fun p k i j => ((L p k i j : ℝ) : EReal)) (fun k i j => a2 (ix3 k i j)) := by
  unfold factors
  refine Finset.sum_congr rfl fun p _ => ?_
  simp only [factorSquares_at, present_at ids s D.subject, D.factor, presence_mul_sum]

/-- At proper arguments the result is the loss. -/
theorem value (a1 : FVec Ideal S8x32 .f32) (a2 : FVec Ideal S8x32x32 .f32) (st : State Ideal)
    (hX : ∀ p k i j, st.main_v11_6 (ix4 p k i j) = ((productInverse (L p k) i j : ℝ) : EReal)) :
    R_main_v82 (F := Ideal) st a0 a1 a2 a3 a4 a5 ids ix0 = loss s x μ L g a1 a2 := by
  rw [result_at, weighted_sum D _ hX, meanSquares_sum D, factorSquares_sum D, ofBits_8192, ofBits_16, ofBits_weight, ← EReal.coe_neg, div_real (by norm_num)]
  simp only [present_at ids s D.subject]
  rfl

end Value

end Cert.RefValue

end
-- ==== Proof.lean ====
/- The proof of the certificate's claims: the frames of the kernel's program at machine numbers and at ideal numbers and
   of the reference's at ideal numbers; the step from machine numbers to ideal ones; and that kernel and reference give the
   same loss at ideal numbers. -/
module

public import proofs.«01_k».proof.Defs
public import proofs.«01_k».proof.Proof.Gen.ReferenceIdeal
public import proofs.«01_k».proof.Proof.Gen.ReferenceIdeal.Run
public import proofs.«01_k».proof.Proof.Gen.ReferenceIdeal.StepRun
public import proofs.«01_k».proof.Proof.Words
public import proofs.«01_k».proof.Proof.Proper
public import proofs.«01_k».proof.Proof.KernelRun
public import proofs.«01_k».proof.Proof.RefValue
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The reference leaves its arguments as they were, and it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The states of the reference's loop. -/
def states (a : FVec Ideal Cert.ReferenceIdeal.S16x8x32x32 .f32) : ℕ → Cert.ReferenceIdeal.Step.State Ideal
  | 0 => Cert.ReferenceIdeal.Step.init (F := Ideal) a
  | n + 1 => Cert.ReferenceIdeal.Step.step n (states a n)

/-- The reference's result is the loss. -/
theorem reference_value {s x μ L g} {a0 a3 a4 a5 a6} (D : Cert.Loss.Data a0 a3 a4 a5 a6 s x μ L g) (a1 a2) :
    Cert.ReferenceIdeal.Step.R_main_v82 (F := Ideal) (states a4 32) a0 a1 a2 a3 a4 a5 a6 = fun _ => Cert.Loss.loss s x μ L g a1 a2 := by
  funext y
  rw [show y = ix0 from funext fun i => i.elim0]
  exact Cert.RefValue.value D a1 a2 _ (Cert.RefParts.solved a4 L D.factor (fun p k i => (D.positive p k i).ne') (states a4) rfl fun _ => rfl)

/-- Kernel and reference give the same loss at ideal numbers. -/
theorem same : Cert.algebraic_KernelIdeal_ReferenceIdeal_pre_proper (hKernelIdeal := Cert.KernelIdeal.Gen.facts)
    (hReferenceIdeal := Cert.ReferenceIdeal.Gen.facts) (hPre_proper := Cert.Pre_proper.Gen.facts) := by
  pair_intro
  · run_from Cert.KernelIdeal.Gen.run_main m g (Cert.Words.KernelIdeal.hyps m fun c => Cert.Proper.subjects (hpre c))
      & Cert.KernelIdeal.Gen.unchanged m g (Cert.Words.KernelIdeal.hyps m fun c => Cert.Proper.subjects (hpre c))
  · run_from Cert.ReferenceIdeal.StepRun.run_iter m' g' (fun c => states (m' ((c.tc : Thread _ _).loc Cert.ReferenceIdeal.main_arg4))) (fun _ => rfl) (fun _ _ => rfl)
    obtain ⟨s, x, μ, L, g, D⟩ := Cert.Proper.data (hpre c)
    exact (reference_value D _ _).trans (Cert.KernelRun.result _ D).symm

/-- All claims. -/
theorem claim : Cert.Claim :=
  ⟨Cert.Kernel.Gen.facts, Cert.KernelIdeal.Gen.facts, Cert.ReferenceIdeal.Gen.facts, Cert.Pre_subjects_exist.Gen.facts, Cert.Pre_proper.Gen.facts,
    fun m ρ h => Cert.Kernel.Gen.frame m ρ (Cert.Words.Kernel.hyps m fun c => Cert.Words.lt_of_exist (h c)),
    fun m ρ h => Cert.KernelIdeal.Gen.frame m ρ (Cert.Words.KernelIdeal.hyps m fun c => Cert.Words.lt_of_exist (h c)),
    fun m ρ h => Cert.KernelIdeal.Gen.frame m ρ (Cert.Words.KernelIdeal.hyps m fun c => Cert.Proper.subjects (h c)),
    reference_frame,
    fun m ρ _ => reference_frame m ρ trivial,
    trivial,
    same⟩

end Cert.Proof

end
